-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x32 : Shape := ⟨2, ![1024, 32]⟩
abbrev S1024x1024 : Shape := ⟨2, ![1024, 1024]⟩
abbrev S62 : Shape := ⟨1, ![62]⟩
abbrev S_ : Shape := ⟨0, ![]⟩
abbrev S1 : Shape := ⟨1, ![1]⟩
abbrev S32x512 : Shape := ⟨2, ![32, 512]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .bf16⟩
  | .hbm, ⟨1, _⟩ => ⟨S1024x32, .bf16⟩
  | .hbm, ⟨2, _⟩ => ⟨S1024x32, .f32⟩
  | .local _ .vmem, ⟨0, _⟩ => ⟨S32x1024, .bf16⟩
  | .local _ .vmem, ⟨1, _⟩ => ⟨S1024x32, .bf16⟩
  | .local _ .vmem, ⟨2, _⟩ => ⟨S1024x32, .f32⟩
  | .local _ .vmem, ⟨3, _⟩ => ⟨S1024x1024, .bf16⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_84 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 32 := Scalar.addi v19 c1_i32_23
  let c4_i32 : BitVec 32 := 4#32
  let c0_i32_24 : BitVec 32 := 0#32
  let v59 : BitVec 1 := Scalar.cmpi .eq c4_i32 c0_i32_24
  let c1_i32_25 : BitVec 32 := 1#32
  let v60 : BitVec 32 := Scalar.select v59 c1_i32_25 c4_i32
  let v61 : BitVec 32 := Scalar.remsi v58 v60
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let c0_i32_26 : BitVec 32 := 0#32
  let v62 : BitVec 1 := Scalar.cmpi .ne v61 c0_i32_26
  let v66 : BitVec 1 := Scalar.andi v65 v62
  let v67 : BitVec 32 := Scalar.addi v61 v60
  let v68 : BitVec 32 := Scalar.select v66 v67 v61
  let v69 : BitVec 32 := Scalar.muli c8_i32_29 v68
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_30 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v72 : BitVec 32 := Scalar.xori v46 v46
  let c1_i32_31 : BitVec 32 := 1#32
  let v73 : BitVec 32 := Scalar.andi v72 c1_i32_31
  let v74 : BitVec 32 := Scalar.xori v56 v73
  let v75 : BitVec 32 := Scalar.addi v71 v74
  let c1_i32_83 : BitVec 32 := 1#32
  let v167 : BitVec 32 := Scalar.muli v75 c1_i32_83
  let v168 : BitVec 32 := Scalar.addi c0_i32_84 v167
  v168.toNat
def k0_dev2 (d0 : Dev nD) : Nat :=
  let c0_i32_87 : BitVec 32 := 0#32
  let c8_i32_39 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_32 : BitVec 32 := 2#32
  let v76 : BitVec 32 := Scalar.addi v19 c2_i32_32
  let c4_i32_33 : BitVec 32 := 4#32
  let c0_i32_34 : BitVec 32 := 0#32
  let v77 : BitVec 1 := Scalar.cmpi .eq c4_i32_33 c0_i32_34
  let c1_i32_35 : BitVec 32 := 1#32
  let v78 : BitVec 32 := Scalar.select v77 c1_i32_35 c4_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let v87 : BitVec 32 := Scalar.muli c8_i32_39 v86
  let c2_i32_40 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v88 : BitVec 32 := Scalar.muli c2_i32_40 v46
  let v89 : BitVec 32 := Scalar.addi v87 v88
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v90 : BitVec 32 := Scalar.xori v46 v46
  let c1_i32_41 : BitVec 32 := 1#32
  let v91 : BitVec 32 := Scalar.andi v90 c1_i32_41
  let v92 : BitVec 32 := Scalar.xori v56 v91
  let v93 : BitVec 32 := Scalar.addi v89 v92
  let c1_i32_86 : BitVec 32 := 1#32
  let v169 : BitVec 32 := Scalar.muli v93 c1_i32_86
  let v170 : BitVec 32 := Scalar.addi c0_i32_87 v169
  v170.toNat
def k0_dev3 (d0 : Dev nD) : Nat :=
  let c0_i32_90 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v94 : BitVec 32 := Scalar.addi v19 c3_i32
  let c4_i32_42 : BitVec 32 := 4#32
  let c0_i32_43 : BitVec 32 := 0#32
  let v95 : BitVec 1 := Scalar.cmpi .eq c4_i32_42 c0_i32_43
  let c1_i32_44 : BitVec 32 := 1#32
  let v96 : BitVec 32 := Scalar.select v95 c1_i32_44 c4_i32_42
  let v97 : BitVec 32 := Scalar.remsi v94 v96
  let c0_i32_46 : BitVec 32 := 0#32
  let v99 : BitVec 1 := Scalar.cmpi .slt v97 c0_i32_46
  let c0_i32_47 : BitVec 32 := 0#32
  let v100 : BitVec 1 := Scalar.cmpi .slt v96 c0_i32_47
  let v101 : BitVec 1 := Scalar.xori v99 v100
  let c0_i32_45 : BitVec 32 := 0#32
  let v98 : BitVec 1 := Scalar.cmpi .ne v97 c0_i32_45
  let v102 : BitVec 1 := Scalar.andi v101 v98
  let v103 : BitVec 32 := Scalar.addi v97 v96
  let v104 : BitVec 32 := Scalar.select v102 v103 v97
  let v105 : BitVec 32 := Scalar.muli c8_i32_48 v104
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v106 : BitVec 32 := Scalar.muli c2_i32_49 v46
  let v107 : BitVec 32 := Scalar.addi v105 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v108 : BitVec 32 := Scalar.xori v46 v46
  let c1_i32_50 : BitVec 32 := 1#32
  let v109 : BitVec 32 := Scalar.andi v108 c1_i32_50
  let v110 : BitVec 32 := Scalar.xori v56 v109
  let v111 : BitVec 32 := Scalar.addi v107 v110
  let c1_i32_89 : BitVec 32 := 1#32
  let v171 : BitVec 32 := Scalar.muli v111 c1_i32_89
  let v172 : BitVec 32 := Scalar.addi c0_i32_90 v171
  v172.toNat
def k0_dev4 (d0 : Dev nD) : Nat :=
  let c0_i32_93 : BitVec 32 := 0#32
  let c8_i32_58 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v123 : BitVec 32 := Scalar.muli c8_i32_58 v19
  let c2_i32_59 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_51 : BitVec 32 := 1#32
  let v112 : BitVec 32 := Scalar.addi v46 c1_i32_51
  let c4_i32_52 : BitVec 32 := 4#32
  let c0_i32_53 : BitVec 32 := 0#32
  let v113 : BitVec 1 := Scalar.cmpi .eq c4_i32_52 c0_i32_53
  let c1_i32_54 : BitVec 32 := 1#32
  let v114 : BitVec 32 := Scalar.select v113 c1_i32_54 c4_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let v124 : BitVec 32 := Scalar.muli c2_i32_59 v122
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v126 : BitVec 32 := Scalar.xori v46 v122
  let c1_i32_60 : BitVec 32 := 1#32
  let v127 : BitVec 32 := Scalar.andi v126 c1_i32_60
  let v128 : BitVec 32 := Scalar.xori v56 v127
  let v129 : BitVec 32 := Scalar.addi v125 v128
  let c1_i32_92 : BitVec 32 := 1#32
  let v173 : BitVec 32 := Scalar.muli v129 c1_i32_92
  let v174 : BitVec 32 := Scalar.addi c0_i32_93 v173
  v174.toNat
def k0_dev5 (d0 : Dev nD) : Nat :=
  let c0_i32_96 : BitVec 32 := 0#32
  let c8_i32_68 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v141 : BitVec 32 := Scalar.muli c8_i32_68 v19
  let c2_i32_69 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_61 : BitVec 32 := 2#32
  let v130 : BitVec 32 := Scalar.addi v46 c2_i32_61
  let c4_i32_62 : BitVec 32 := 4#32
  let c0_i32_63 : BitVec 32 := 0#32
  let v131 : BitVec 1 := Scalar.cmpi .eq c4_i32_62 c0_i32_63
  let c1_i32_64 : BitVec 32 := 1#32
  let v132 : BitVec 32 := Scalar.select v131 c1_i32_64 c4_i32_62
  let v133 : BitVec 32 := Scalar.remsi v130 v132
  let c0_i32_66 : BitVec 32 := 0#32
  let v135 : BitVec 1 := Scalar.cmpi .slt v133 c0_i32_66
  let c0_i32_67 : BitVec 32 := 0#32
  let v136 : BitVec 1 := Scalar.cmpi .slt v132 c0_i32_67
  let v137 : BitVec 1 := Scalar.xori v135 v136
  let c0_i32_65 : BitVec 32 := 0#32
  let v134 : BitVec 1 := Scalar.cmpi .ne v133 c0_i32_65
  let v138 : BitVec 1 := Scalar.andi v137 v134
  let v139 : BitVec 32 := Scalar.addi v133 v132
  let v140 : BitVec 32 := Scalar.select v138 v139 v133
  let v142 : BitVec 32 := Scalar.muli c2_i32_69 v140
  let v143 : BitVec 32 := Scalar.addi v141 v142
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v144 : BitVec 32 := Scalar.xori v46 v140
  let c1_i32_70 : BitVec 32 := 1#32
  let v145 : BitVec 32 := Scalar.andi v144 c1_i32_70
  let v146 : BitVec 32 := Scalar.xori v56 v145
  let v147 : BitVec 32 := Scalar.addi v143 v146
  let c1_i32_95 : BitVec 32 := 1#32
  let v175 : BitVec 32 := Scalar.muli v147 c1_i32_95
  let v176 : BitVec 32 := Scalar.addi c0_i32_96 v175
  v176.toNat
def k0_dev6 (d0 : Dev nD) : Nat :=
  let c0_i32_99 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v159 : BitVec 32 := Scalar.muli c8_i32_78 v19
  let c2_i32_79 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_71 : BitVec 32 := 3#32
  let v148 : BitVec 32 := Scalar.addi v46 c3_i32_71
  let c4_i32_72 : BitVec 32 := 4#32
  let c0_i32_73 : BitVec 32 := 0#32
  let v149 : BitVec 1 := Scalar.cmpi .eq c4_i32_72 c0_i32_73
  let c1_i32_74 : BitVec 32 := 1#32
  let v150 : BitVec 32 := Scalar.select v149 c1_i32_74 c4_i32_72
  let v151 : BitVec 32 := Scalar.remsi v148 v150
  let c0_i32_76 : BitVec 32 := 0#32
  let v153 : BitVec 1 := Scalar.cmpi .slt v151 c0_i32_76
  let c0_i32_77 : BitVec 32 := 0#32
  let v154 : BitVec 1 := Scalar.cmpi .slt v150 c0_i32_77
  let v155 : BitVec 1 := Scalar.xori v153 v154
  let c0_i32_75 : BitVec 32 := 0#32
  let v152 : BitVec 1 := Scalar.cmpi .ne v151 c0_i32_75
  let v156 : BitVec 1 := Scalar.andi v155 v152
  let v157 : BitVec 32 := Scalar.addi v151 v150
  let v158 : BitVec 32 := Scalar.select v156 v157 v151
  let v160 : BitVec 32 := Scalar.muli c2_i32_79 v158
  let v161 : BitVec 32 := Scalar.addi v159 v160
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v162 : BitVec 32 := Scalar.xori v46 v158
  let c1_i32_80 : BitVec 32 := 1#32
  let v163 : BitVec 32 := Scalar.andi v162 c1_i32_80
  let v164 : BitVec 32 := Scalar.xori v56 v163
  let v165 : BitVec 32 := Scalar.addi v161 v164
  let c1_i32_98 : BitVec 32 := 1#32
  let v177 : BitVec 32 := Scalar.muli v165 c1_i32_98
  let v178 : BitVec 32 := Scalar.addi c0_i32_99 v177
  v178.toNat
def k0_dev7 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_101 : BitVec 32 := 1#32
  let v179 : BitVec 32 := Scalar.muli v166 c1_i32_101
  let v180 : BitVec 32 := Scalar.addi c0_i32_102 v179
  v180.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_104 : BitVec 32 := 32#32
  let v183 : BitVec 32 := Scalar.muli v2 c32_i32_104
  let v184 : Index := Scalar.indexCast v183
  let c0_105 : Index := 0#32
  ![v184.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_107 : BitVec 32 := 32#32
  let v189 : BitVec 32 := Scalar.muli v2 c32_i32_107
  let c0_i32_112 : BitVec 32 := 0#32
  ![v189.toNat, 0]
def k0_dev8 (d0 : Dev nD) : Nat :=
  let c0_i32_111 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 32 := Scalar.addi v19 c1_i32_23
  let c4_i32 : BitVec 32 := 4#32
  let c0_i32_24 : BitVec 32 := 0#32
  let v59 : BitVec 1 := Scalar.cmpi .eq c4_i32 c0_i32_24
  let c1_i32_25 : BitVec 32 := 1#32
  let v60 : BitVec 32 := Scalar.select v59 c1_i32_25 c4_i32
  let v61 : BitVec 32 := Scalar.remsi v58 v60
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let c0_i32_26 : BitVec 32 := 0#32
  let v62 : BitVec 1 := Scalar.cmpi .ne v61 c0_i32_26
  let v66 : BitVec 1 := Scalar.andi v65 v62
  let v67 : BitVec 32 := Scalar.addi v61 v60
  let v68 : BitVec 32 := Scalar.select v66 v67 v61
  let v69 : BitVec 32 := Scalar.muli c8_i32_29 v68
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_30 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v72 : BitVec 32 := Scalar.xori v46 v46
  let c1_i32_31 : BitVec 32 := 1#32
  let v73 : BitVec 32 := Scalar.andi v72 c1_i32_31
  let v74 : BitVec 32 := Scalar.xori v56 v73
  let v75 : BitVec 32 := Scalar.addi v71 v74
  let c1_i32_110 : BitVec 32 := 1#32
  let v190 : BitVec 32 := Scalar.muli v75 c1_i32_110
  let v191 : BitVec 32 := Scalar.addi c0_i32_111 v190
  v191.toNat
def k0_dev9 (d0 : Dev nD) : Nat :=
  let c0_i32_119 : BitVec 32 := 0#32
  let c8_i32_39 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_32 : BitVec 32 := 2#32
  let v76 : BitVec 32 := Scalar.addi v19 c2_i32_32
  let c4_i32_33 : BitVec 32 := 4#32
  let c0_i32_34 : BitVec 32 := 0#32
  let v77 : BitVec 1 := Scalar.cmpi .eq c4_i32_33 c0_i32_34
  let c1_i32_35 : BitVec 32 := 1#32
  let v78 : BitVec 32 := Scalar.select v77 c1_i32_35 c4_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let v87 : BitVec 32 := Scalar.muli c8_i32_39 v86
  let c2_i32_40 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v88 : BitVec 32 := Scalar.muli c2_i32_40 v46
  let v89 : BitVec 32 := Scalar.addi v87 v88
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v90 : BitVec 32 := Scalar.xori v46 v46
  let c1_i32_41 : BitVec 32 := 1#32
  let v91 : BitVec 32 := Scalar.andi v90 c1_i32_41
  let v92 : BitVec 32 := Scalar.xori v56 v91
  let v93 : BitVec 32 := Scalar.addi v89 v92
  let c1_i32_118 : BitVec 32 := 1#32
  let v200 : BitVec 32 := Scalar.muli v93 c1_i32_118
  let v201 : BitVec 32 := Scalar.addi c0_i32_119 v200
  v201.toNat
def k0_dev10 (d0 : Dev nD) : Nat :=
  let c0_i32_127 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v94 : BitVec 32 := Scalar.addi v19 c3_i32
  let c4_i32_42 : BitVec 32 := 4#32
  let c0_i32_43 : BitVec 32 := 0#32
  let v95 : BitVec 1 := Scalar.cmpi .eq c4_i32_42 c0_i32_43
  let c1_i32_44 : BitVec 32 := 1#32
  let v96 : BitVec 32 := Scalar.select v95 c1_i32_44 c4_i32_42
  let v97 : BitVec 32 := Scalar.remsi v94 v96
  let c0_i32_46 : BitVec 32 := 0#32
  let v99 : BitVec 1 := Scalar.cmpi .slt v97 c0_i32_46
  let c0_i32_47 : BitVec 32 := 0#32
  let v100 : BitVec 1 := Scalar.cmpi .slt v96 c0_i32_47
  let v101 : BitVec 1 := Scalar.xori v99 v100
  let c0_i32_45 : BitVec 32 := 0#32
  let v98 : BitVec 1 := Scalar.cmpi .ne v97 c0_i32_45
  let v102 : BitVec 1 := Scalar.andi v101 v98
  let v103 : BitVec 32 := Scalar.addi v97 v96
  let v104 : BitVec 32 := Scalar.select v102 v103 v97
  let v105 : BitVec 32 := Scalar.muli c8_i32_48 v104
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v106 : BitVec 32 := Scalar.muli c2_i32_49 v46
  let v107 : BitVec 32 := Scalar.addi v105 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v108 : BitVec 32 := Scalar.xori v46 v46
  let c1_i32_50 : BitVec 32 := 1#32
  let v109 : BitVec 32 := Scalar.andi v108 c1_i32_50
  let v110 : BitVec 32 := Scalar.xori v56 v109
  let v111 : BitVec 32 := Scalar.addi v107 v110
  let c1_i32_126 : BitVec 32 := 1#32
  let v210 : BitVec 32 := Scalar.muli v111 c1_i32_126
  let v211 : BitVec 32 := Scalar.addi c0_i32_127 v210
  v211.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_131 : BitVec 32 := 32#32
  let v219 : BitVec 32 := Scalar.muli v2 c32_i32_131
  let c512_i32 : BitVec 32 := 512#32
  ![v219.toNat, 512]
def k0_dev11 (d0 : Dev nD) : Nat :=
  let c0_i32_134 : BitVec 32 := 0#32
  let c8_i32_58 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v123 : BitVec 32 := Scalar.muli c8_i32_58 v19
  let c2_i32_59 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_51 : BitVec 32 := 1#32
  let v112 : BitVec 32 := Scalar.addi v46 c1_i32_51
  let c4_i32_52 : BitVec 32 := 4#32
  let c0_i32_53 : BitVec 32 := 0#32
  let v113 : BitVec 1 := Scalar.cmpi .eq c4_i32_52 c0_i32_53
  let c1_i32_54 : BitVec 32 := 1#32
  let v114 : BitVec 32 := Scalar.select v113 c1_i32_54 c4_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let v124 : BitVec 32 := Scalar.muli c2_i32_59 v122
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v126 : BitVec 32 := Scalar.xori v46 v122
  let c1_i32_60 : BitVec 32 := 1#32
  let v127 : BitVec 32 := Scalar.andi v126 c1_i32_60
  let v128 : BitVec 32 := Scalar.xori v56 v127
  let v129 : BitVec 32 := Scalar.addi v125 v128
  let c1_i32_133 : BitVec 32 := 1#32
  let v220 : BitVec 32 := Scalar.muli v129 c1_i32_133
  let v221 : BitVec 32 := Scalar.addi c0_i32_134 v220
  v221.toNat
def k0_dev12 (d0 : Dev nD) : Nat :=
  let c0_i32_141 : BitVec 32 := 0#32
  let c8_i32_68 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v141 : BitVec 32 := Scalar.muli c8_i32_68 v19
  let c2_i32_69 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_61 : BitVec 32 := 2#32
  let v130 : BitVec 32 := Scalar.addi v46 c2_i32_61
  let c4_i32_62 : BitVec 32 := 4#32
  let c0_i32_63 : BitVec 32 := 0#32
  let v131 : BitVec 1 := Scalar.cmpi .eq c4_i32_62 c0_i32_63
  let c1_i32_64 : BitVec 32 := 1#32
  let v132 : BitVec 32 := Scalar.select v131 c1_i32_64 c4_i32_62
  let v133 : BitVec 32 := Scalar.remsi v130 v132
  let c0_i32_66 : BitVec 32 := 0#32
  let v135 : BitVec 1 := Scalar.cmpi .slt v133 c0_i32_66
  let c0_i32_67 : BitVec 32 := 0#32
  let v136 : BitVec 1 := Scalar.cmpi .slt v132 c0_i32_67
  let v137 : BitVec 1 := Scalar.xori v135 v136
  let c0_i32_65 : BitVec 32 := 0#32
  let v134 : BitVec 1 := Scalar.cmpi .ne v133 c0_i32_65
  let v138 : BitVec 1 := Scalar.andi v137 v134
  let v139 : BitVec 32 := Scalar.addi v133 v132
  let v140 : BitVec 32 := Scalar.select v138 v139 v133
  let v142 : BitVec 32 := Scalar.muli c2_i32_69 v140
  let v143 : BitVec 32 := Scalar.addi v141 v142
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v144 : BitVec 32 := Scalar.xori v46 v140
  let c1_i32_70 : BitVec 32 := 1#32
  let v145 : BitVec 32 := Scalar.andi v144 c1_i32_70
  let v146 : BitVec 32 := Scalar.xori v56 v145
  let v147 : BitVec 32 := Scalar.addi v143 v146
  let c1_i32_140 : BitVec 32 := 1#32
  let v230 : BitVec 32 := Scalar.muli v147 c1_i32_140
  let v231 : BitVec 32 := Scalar.addi c0_i32_141 v230
  v231.toNat
def k0_dev13 (d0 : Dev nD) : Nat :=
  let c0_i32_148 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v159 : BitVec 32 := Scalar.muli c8_i32_78 v19
  let c2_i32_79 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_71 : BitVec 32 := 3#32
  let v148 : BitVec 32 := Scalar.addi v46 c3_i32_71
  let c4_i32_72 : BitVec 32 := 4#32
  let c0_i32_73 : BitVec 32 := 0#32
  let v149 : BitVec 1 := Scalar.cmpi .eq c4_i32_72 c0_i32_73
  let c1_i32_74 : BitVec 32 := 1#32
  let v150 : BitVec 32 := Scalar.select v149 c1_i32_74 c4_i32_72
  let v151 : BitVec 32 := Scalar.remsi v148 v150
  let c0_i32_76 : BitVec 32 := 0#32
  let v153 : BitVec 1 := Scalar.cmpi .slt v151 c0_i32_76
  let c0_i32_77 : BitVec 32 := 0#32
  let v154 : BitVec 1 := Scalar.cmpi .slt v150 c0_i32_77
  let v155 : BitVec 1 := Scalar.xori v153 v154
  let c0_i32_75 : BitVec 32 := 0#32
  let v152 : BitVec 1 := Scalar.cmpi .ne v151 c0_i32_75
  let v156 : BitVec 1 := Scalar.andi v155 v152
  let v157 : BitVec 32 := Scalar.addi v151 v150
  let v158 : BitVec 32 := Scalar.select v156 v157 v151
  let v160 : BitVec 32 := Scalar.muli c2_i32_79 v158
  let v161 : BitVec 32 := Scalar.addi v159 v160
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v162 : BitVec 32 := Scalar.xori v46 v158
  let c1_i32_80 : BitVec 32 := 1#32
  let v163 : BitVec 32 := Scalar.andi v162 c1_i32_80
  let v164 : BitVec 32 := Scalar.xori v56 v163
  let v165 : BitVec 32 := Scalar.addi v161 v164
  let c1_i32_147 : BitVec 32 := 1#32
  let v240 : BitVec 32 := Scalar.muli v165 c1_i32_147
  let v241 : BitVec 32 := Scalar.addi c0_i32_148 v240
  v241.toNat
def k0_dev14 (d0 : Dev nD) : Nat :=
  let c0_i32_156 : BitVec 32 := 0#32
  let c8_i32_58 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v123 : BitVec 32 := Scalar.muli c8_i32_58 v19
  let c2_i32_59 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_51 : BitVec 32 := 1#32
  let v112 : BitVec 32 := Scalar.addi v46 c1_i32_51
  let c4_i32_52 : BitVec 32 := 4#32
  let c0_i32_53 : BitVec 32 := 0#32
  let v113 : BitVec 1 := Scalar.cmpi .eq c4_i32_52 c0_i32_53
  let c1_i32_54 : BitVec 32 := 1#32
  let v114 : BitVec 32 := Scalar.select v113 c1_i32_54 c4_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let v124 : BitVec 32 := Scalar.muli c2_i32_59 v122
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v126 : BitVec 32 := Scalar.xori v46 v122
  let c1_i32_60 : BitVec 32 := 1#32
  let v127 : BitVec 32 := Scalar.andi v126 c1_i32_60
  let v128 : BitVec 32 := Scalar.xori v56 v127
  let v129 : BitVec 32 := Scalar.addi v125 v128
  let c1_i32_155 : BitVec 32 := 1#32
  let v250 : BitVec 32 := Scalar.muli v129 c1_i32_155
  let v251 : BitVec 32 := Scalar.addi c0_i32_156 v250
  v251.toNat
def k0_dev15 (d0 : Dev nD) : Nat :=
  let c0_i32_164 : BitVec 32 := 0#32
  let c8_i32_68 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v141 : BitVec 32 := Scalar.muli c8_i32_68 v19
  let c2_i32_69 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_61 : BitVec 32 := 2#32
  let v130 : BitVec 32 := Scalar.addi v46 c2_i32_61
  let c4_i32_62 : BitVec 32 := 4#32
  let c0_i32_63 : BitVec 32 := 0#32
  let v131 : BitVec 1 := Scalar.cmpi .eq c4_i32_62 c0_i32_63
  let c1_i32_64 : BitVec 32 := 1#32
  let v132 : BitVec 32 := Scalar.select v131 c1_i32_64 c4_i32_62
  let v133 : BitVec 32 := Scalar.remsi v130 v132
  let c0_i32_66 : BitVec 32 := 0#32
  let v135 : BitVec 1 := Scalar.cmpi .slt v133 c0_i32_66
  let c0_i32_67 : BitVec 32 := 0#32
  let v136 : BitVec 1 := Scalar.cmpi .slt v132 c0_i32_67
  let v137 : BitVec 1 := Scalar.xori v135 v136
  let c0_i32_65 : BitVec 32 := 0#32
  let v134 : BitVec 1 := Scalar.cmpi .ne v133 c0_i32_65
  let v138 : BitVec 1 := Scalar.andi v137 v134
  let v139 : BitVec 32 := Scalar.addi v133 v132
  let v140 : BitVec 32 := Scalar.select v138 v139 v133
  let v142 : BitVec 32 := Scalar.muli c2_i32_69 v140
  let v143 : BitVec 32 := Scalar.addi v141 v142
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v144 : BitVec 32 := Scalar.xori v46 v140
  let c1_i32_70 : BitVec 32 := 1#32
  let v145 : BitVec 32 := Scalar.andi v144 c1_i32_70
  let v146 : BitVec 32 := Scalar.xori v56 v145
  let v147 : BitVec 32 := Scalar.addi v143 v146
  let c1_i32_163 : BitVec 32 := 1#32
  let v260 : BitVec 32 := Scalar.muli v147 c1_i32_163
  let v261 : BitVec 32 := Scalar.addi c0_i32_164 v260
  v261.toNat
def k0_dev16 (d0 : Dev nD) : Nat :=
  let c0_i32_171 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v159 : BitVec 32 := Scalar.muli c8_i32_78 v19
  let c2_i32_79 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_71 : BitVec 32 := 3#32
  let v148 : BitVec 32 := Scalar.addi v46 c3_i32_71
  let c4_i32_72 : BitVec 32 := 4#32
  let c0_i32_73 : BitVec 32 := 0#32
  let v149 : BitVec 1 := Scalar.cmpi .eq c4_i32_72 c0_i32_73
  let c1_i32_74 : BitVec 32 := 1#32
  let v150 : BitVec 32 := Scalar.select v149 c1_i32_74 c4_i32_72
  let v151 : BitVec 32 := Scalar.remsi v148 v150
  let c0_i32_76 : BitVec 32 := 0#32
  let v153 : BitVec 1 := Scalar.cmpi .slt v151 c0_i32_76
  let c0_i32_77 : BitVec 32 := 0#32
  let v154 : BitVec 1 := Scalar.cmpi .slt v150 c0_i32_77
  let v155 : BitVec 1 := Scalar.xori v153 v154
  let c0_i32_75 : BitVec 32 := 0#32
  let v152 : BitVec 1 := Scalar.cmpi .ne v151 c0_i32_75
  let v156 : BitVec 1 := Scalar.andi v155 v152
  let v157 : BitVec 32 := Scalar.addi v151 v150
  let v158 : BitVec 32 := Scalar.select v156 v157 v151
  let v160 : BitVec 32 := Scalar.muli c2_i32_79 v158
  let v161 : BitVec 32 := Scalar.addi v159 v160
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v162 : BitVec 32 := Scalar.xori v46 v158
  let c1_i32_80 : BitVec 32 := 1#32
  let v163 : BitVec 32 := Scalar.andi v162 c1_i32_80
  let v164 : BitVec 32 := Scalar.xori v56 v163
  let v165 : BitVec 32 := Scalar.addi v161 v164
  let c1_i32_170 : BitVec 32 := 1#32
  let v270 : BitVec 32 := Scalar.muli v165 c1_i32_170
  let v271 : BitVec 32 := Scalar.addi c0_i32_171 v270
  v271.toNat
def k0_dev17 (d0 : Dev nD) : Nat :=
  let c0_i32_178 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 32 := Scalar.addi v19 c1_i32_23
  let c4_i32 : BitVec 32 := 4#32
  let c0_i32_24 : BitVec 32 := 0#32
  let v59 : BitVec 1 := Scalar.cmpi .eq c4_i32 c0_i32_24
  let c1_i32_25 : BitVec 32 := 1#32
  let v60 : BitVec 32 := Scalar.select v59 c1_i32_25 c4_i32
  let v61 : BitVec 32 := Scalar.remsi v58 v60
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let c0_i32_26 : BitVec 32 := 0#32
  let v62 : BitVec 1 := Scalar.cmpi .ne v61 c0_i32_26
  let v66 : BitVec 1 := Scalar.andi v65 v62
  let v67 : BitVec 32 := Scalar.addi v61 v60
  let v68 : BitVec 32 := Scalar.select v66 v67 v61
  let v69 : BitVec 32 := Scalar.muli c8_i32_29 v68
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_30 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v72 : BitVec 32 := Scalar.xori v46 v46
  let c1_i32_31 : BitVec 32 := 1#32
  let v73 : BitVec 32 := Scalar.andi v72 c1_i32_31
  let v74 : BitVec 32 := Scalar.xori v56 v73
  let v75 : BitVec 32 := Scalar.addi v71 v74
  let c1_i32_177 : BitVec 32 := 1#32
  let v280 : BitVec 32 := Scalar.muli v75 c1_i32_177
  let v281 : BitVec 32 := Scalar.addi c0_i32_178 v280
  v281.toNat
def k0_dev18 (d0 : Dev nD) : Nat :=
  let c0_i32_185 : BitVec 32 := 0#32
  let c8_i32_39 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_32 : BitVec 32 := 2#32
  let v76 : BitVec 32 := Scalar.addi v19 c2_i32_32
  let c4_i32_33 : BitVec 32 := 4#32
  let c0_i32_34 : BitVec 32 := 0#32
  let v77 : BitVec 1 := Scalar.cmpi .eq c4_i32_33 c0_i32_34
  let c1_i32_35 : BitVec 32 := 1#32
  let v78 : BitVec 32 := Scalar.select v77 c1_i32_35 c4_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let v87 : BitVec 32 := Scalar.muli c8_i32_39 v86
  let c2_i32_40 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v88 : BitVec 32 := Scalar.muli c2_i32_40 v46
  let v89 : BitVec 32 := Scalar.addi v87 v88
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v90 : BitVec 32 := Scalar.xori v46 v46
  let c1_i32_41 : BitVec 32 := 1#32
  let v91 : BitVec 32 := Scalar.andi v90 c1_i32_41
  let v92 : BitVec 32 := Scalar.xori v56 v91
  let v93 : BitVec 32 := Scalar.addi v89 v92
  let c1_i32_184 : BitVec 32 := 1#32
  let v290 : BitVec 32 := Scalar.muli v93 c1_i32_184
  let v291 : BitVec 32 := Scalar.addi c0_i32_185 v290
  v291.toNat
def k0_dev19 (d0 : Dev nD) : Nat :=
  let c0_i32_192 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v94 : BitVec 32 := Scalar.addi v19 c3_i32
  let c4_i32_42 : BitVec 32 := 4#32
  let c0_i32_43 : BitVec 32 := 0#32
  let v95 : BitVec 1 := Scalar.cmpi .eq c4_i32_42 c0_i32_43
  let c1_i32_44 : BitVec 32 := 1#32
  let v96 : BitVec 32 := Scalar.select v95 c1_i32_44 c4_i32_42
  let v97 : BitVec 32 := Scalar.remsi v94 v96
  let c0_i32_46 : BitVec 32 := 0#32
  let v99 : BitVec 1 := Scalar.cmpi .slt v97 c0_i32_46
  let c0_i32_47 : BitVec 32 := 0#32
  let v100 : BitVec 1 := Scalar.cmpi .slt v96 c0_i32_47
  let v101 : BitVec 1 := Scalar.xori v99 v100
  let c0_i32_45 : BitVec 32 := 0#32
  let v98 : BitVec 1 := Scalar.cmpi .ne v97 c0_i32_45
  let v102 : BitVec 1 := Scalar.andi v101 v98
  let v103 : BitVec 32 := Scalar.addi v97 v96
  let v104 : BitVec 32 := Scalar.select v102 v103 v97
  let v105 : BitVec 32 := Scalar.muli c8_i32_48 v104
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v106 : BitVec 32 := Scalar.muli c2_i32_49 v46
  let v107 : BitVec 32 := Scalar.addi v105 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v108 : BitVec 32 := Scalar.xori v46 v46
  let c1_i32_50 : BitVec 32 := 1#32
  let v109 : BitVec 32 := Scalar.andi v108 c1_i32_50
  let v110 : BitVec 32 := Scalar.xori v56 v109
  let v111 : BitVec 32 := Scalar.addi v107 v110
  let c1_i32_191 : BitVec 32 := 1#32
  let v300 : BitVec 32 := Scalar.muli v111 c1_i32_191
  let v301 : BitVec 32 := Scalar.addi c0_i32_192 v300
  v301.toNat
def k0_dev20 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_198 : BitVec 32 := 1#32
  let v310 : BitVec 32 := Scalar.muli v166 c1_i32_198
  let v311 : BitVec 32 := Scalar.addi c0_i32_199 v310
  v311.toNat
def k0_dev21 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_205 : BitVec 32 := 1#32
  let v320 : BitVec 32 := Scalar.muli v166 c1_i32_205
  let v321 : BitVec 32 := Scalar.addi c0_i32_206 v320
  v321.toNat
def k0_off4 (d0 : Dev nD) (c1_i32_210 : BitVec 32) : Fin 2 → Nat :=
  let c8_i32_217 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_209 : BitVec 32 := 4#32
  let v328 : BitVec 32 := Scalar.addi v19 c4_i32_209
  let v329 : BitVec 32 := Scalar.subi v328 c1_i32_210
  let c4_i32_211 : BitVec 32 := 4#32
  let c0_i32_212 : BitVec 32 := 0#32
  let v330 : BitVec 1 := Scalar.cmpi .eq c4_i32_211 c0_i32_212
  let c1_i32_213 : BitVec 32 := 1#32
  let v331 : BitVec 32 := Scalar.select v330 c1_i32_213 c4_i32_211
  let v332 : BitVec 32 := Scalar.remsi v329 v331
  let c0_i32_215 : BitVec 32 := 0#32
  let v334 : BitVec 1 := Scalar.cmpi .slt v332 c0_i32_215
  let c0_i32_216 : BitVec 32 := 0#32
  let v335 : BitVec 1 := Scalar.cmpi .slt v331 c0_i32_216
  let v336 : BitVec 1 := Scalar.xori v334 v335
  let c0_i32_214 : BitVec 32 := 0#32
  let v333 : BitVec 1 := Scalar.cmpi .ne v332 c0_i32_214
  let v337 : BitVec 1 := Scalar.andi v336 v333
  let v338 : BitVec 32 := Scalar.addi v332 v331
  let v339 : BitVec 32 := Scalar.select v337 v338 v332
  let v340 : BitVec 32 := Scalar.muli c8_i32_217 v339
  let c2_i32_218 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v341 : BitVec 32 := Scalar.muli c2_i32_218 v46
  let v342 : BitVec 32 := Scalar.addi v340 v341
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v343 : BitVec 32 := Scalar.xori v46 v46
  let c1_i32_219 : BitVec 32 := 1#32
  let v344 : BitVec 32 := Scalar.andi v343 c1_i32_219
  let v345 : BitVec 32 := Scalar.xori v56 v344
  let v346 : BitVec 32 := Scalar.addi v342 v345
  let c32_i32_221 : BitVec 32 := 32#32
  let v348 : BitVec 32 := Scalar.muli v346 c32_i32_221
  let c0_i32_226 : BitVec 32 := 0#32
  ![v348.toNat, 0]
def k0_dev22 (d0 : Dev nD) : Nat :=
  let c0_i32_232 : BitVec 32 := 0#32
  let c8_i32_58 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v123 : BitVec 32 := Scalar.muli c8_i32_58 v19
  let c2_i32_59 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_51 : BitVec 32 := 1#32
  let v112 : BitVec 32 := Scalar.addi v46 c1_i32_51
  let c4_i32_52 : BitVec 32 := 4#32
  let c0_i32_53 : BitVec 32 := 0#32
  let v113 : BitVec 1 := Scalar.cmpi .eq c4_i32_52 c0_i32_53
  let c1_i32_54 : BitVec 32 := 1#32
  let v114 : BitVec 32 := Scalar.select v113 c1_i32_54 c4_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let v124 : BitVec 32 := Scalar.muli c2_i32_59 v122
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v126 : BitVec 32 := Scalar.xori v46 v122
  let c1_i32_60 : BitVec 32 := 1#32
  let v127 : BitVec 32 := Scalar.andi v126 c1_i32_60
  let v128 : BitVec 32 := Scalar.xori v56 v127
  let v129 : BitVec 32 := Scalar.addi v125 v128
  let c1_i32_231 : BitVec 32 := 1#32
  let v357 : BitVec 32 := Scalar.muli v129 c1_i32_231
  let v358 : BitVec 32 := Scalar.addi c0_i32_232 v357
  v358.toNat
def k0_dev23 (d0 : Dev nD) : Nat :=
  let c0_i32_239 : BitVec 32 := 0#32
  let c8_i32_68 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v141 : BitVec 32 := Scalar.muli c8_i32_68 v19
  let c2_i32_69 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_61 : BitVec 32 := 2#32
  let v130 : BitVec 32 := Scalar.addi v46 c2_i32_61
  let c4_i32_62 : BitVec 32 := 4#32
  let c0_i32_63 : BitVec 32 := 0#32
  let v131 : BitVec 1 := Scalar.cmpi .eq c4_i32_62 c0_i32_63
  let c1_i32_64 : BitVec 32 := 1#32
  let v132 : BitVec 32 := Scalar.select v131 c1_i32_64 c4_i32_62
  let v133 : BitVec 32 := Scalar.remsi v130 v132
  let c0_i32_66 : BitVec 32 := 0#32
  let v135 : BitVec 1 := Scalar.cmpi .slt v133 c0_i32_66
  let c0_i32_67 : BitVec 32 := 0#32
  let v136 : BitVec 1 := Scalar.cmpi .slt v132 c0_i32_67
  let v137 : BitVec 1 := Scalar.xori v135 v136
  let c0_i32_65 : BitVec 32 := 0#32
  let v134 : BitVec 1 := Scalar.cmpi .ne v133 c0_i32_65
  let v138 : BitVec 1 := Scalar.andi v137 v134
  let v139 : BitVec 32 := Scalar.addi v133 v132
  let v140 : BitVec 32 := Scalar.select v138 v139 v133
  let v142 : BitVec 32 := Scalar.muli c2_i32_69 v140
  let v143 : BitVec 32 := Scalar.addi v141 v142
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v144 : BitVec 32 := Scalar.xori v46 v140
  let c1_i32_70 : BitVec 32 := 1#32
  let v145 : BitVec 32 := Scalar.andi v144 c1_i32_70
  let v146 : BitVec 32 := Scalar.xori v56 v145
  let v147 : BitVec 32 := Scalar.addi v143 v146
  let c1_i32_238 : BitVec 32 := 1#32
  let v367 : BitVec 32 := Scalar.muli v147 c1_i32_238
  let v368 : BitVec 32 := Scalar.addi c0_i32_239 v367
  v368.toNat
def k0_dev24 (d0 : Dev nD) : Nat :=
  let c0_i32_246 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v159 : BitVec 32 := Scalar.muli c8_i32_78 v19
  let c2_i32_79 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_71 : BitVec 32 := 3#32
  let v148 : BitVec 32 := Scalar.addi v46 c3_i32_71
  let c4_i32_72 : BitVec 32 := 4#32
  let c0_i32_73 : BitVec 32 := 0#32
  let v149 : BitVec 1 := Scalar.cmpi .eq c4_i32_72 c0_i32_73
  let c1_i32_74 : BitVec 32 := 1#32
  let v150 : BitVec 32 := Scalar.select v149 c1_i32_74 c4_i32_72
  let v151 : BitVec 32 := Scalar.remsi v148 v150
  let c0_i32_76 : BitVec 32 := 0#32
  let v153 : BitVec 1 := Scalar.cmpi .slt v151 c0_i32_76
  let c0_i32_77 : BitVec 32 := 0#32
  let v154 : BitVec 1 := Scalar.cmpi .slt v150 c0_i32_77
  let v155 : BitVec 1 := Scalar.xori v153 v154
  let c0_i32_75 : BitVec 32 := 0#32
  let v152 : BitVec 1 := Scalar.cmpi .ne v151 c0_i32_75
  let v156 : BitVec 1 := Scalar.andi v155 v152
  let v157 : BitVec 32 := Scalar.addi v151 v150
  let v158 : BitVec 32 := Scalar.select v156 v157 v151
  let v160 : BitVec 32 := Scalar.muli c2_i32_79 v158
  let v161 : BitVec 32 := Scalar.addi v159 v160
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v162 : BitVec 32 := Scalar.xori v46 v158
  let c1_i32_80 : BitVec 32 := 1#32
  let v163 : BitVec 32 := Scalar.andi v162 c1_i32_80
  let v164 : BitVec 32 := Scalar.xori v56 v163
  let v165 : BitVec 32 := Scalar.addi v161 v164
  let c1_i32_245 : BitVec 32 := 1#32
  let v377 : BitVec 32 := Scalar.muli v165 c1_i32_245
  let v378 : BitVec 32 := Scalar.addi c0_i32_246 v377
  v378.toNat
def k0_dev25 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_252 : BitVec 32 := 1#32
  let v387 : BitVec 32 := Scalar.muli v166 c1_i32_252
  let v388 : BitVec 32 := Scalar.addi c0_i32_253 v387
  v388.toNat
def k0_off5 (d0 : Dev nD) (c1_i32_257 : BitVec 32) : Fin 2 → Nat :=
  let c8_i32_264 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v407 : BitVec 32 := Scalar.muli c8_i32_264 v19
  let c2_i32_265 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4_i32_256 : BitVec 32 := 4#32
  let v395 : BitVec 32 := Scalar.addi v46 c4_i32_256
  let v396 : BitVec 32 := Scalar.subi v395 c1_i32_257
  let c4_i32_258 : BitVec 32 := 4#32
  let c0_i32_259 : BitVec 32 := 0#32
  let v397 : BitVec 1 := Scalar.cmpi .eq c4_i32_258 c0_i32_259
  let c1_i32_260 : BitVec 32 := 1#32
  let v398 : BitVec 32 := Scalar.select v397 c1_i32_260 c4_i32_258
  let v399 : BitVec 32 := Scalar.remsi v396 v398
  let c0_i32_262 : BitVec 32 := 0#32
  let v401 : BitVec 1 := Scalar.cmpi .slt v399 c0_i32_262
  let c0_i32_263 : BitVec 32 := 0#32
  let v402 : BitVec 1 := Scalar.cmpi .slt v398 c0_i32_263
  let v403 : BitVec 1 := Scalar.xori v401 v402
  let c0_i32_261 : BitVec 32 := 0#32
  let v400 : BitVec 1 := Scalar.cmpi .ne v399 c0_i32_261
  let v404 : BitVec 1 := Scalar.andi v403 v400
  let v405 : BitVec 32 := Scalar.addi v399 v398
  let v406 : BitVec 32 := Scalar.select v404 v405 v399
  let v408 : BitVec 32 := Scalar.muli c2_i32_265 v406
  let v409 : BitVec 32 := Scalar.addi v407 v408
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v410 : BitVec 32 := Scalar.xori v46 v406
  let c1_i32_266 : BitVec 32 := 1#32
  let v411 : BitVec 32 := Scalar.andi v410 c1_i32_266
  let v412 : BitVec 32 := Scalar.xori v56 v411
  let v413 : BitVec 32 := Scalar.addi v409 v412
  let c32_i32_268 : BitVec 32 := 32#32
  let v415 : BitVec 32 := Scalar.muli v413 c32_i32_268
  let c512_i32_273 : BitVec 32 := 512#32
  ![v415.toNat, 512]
def k0_dev26 (d0 : Dev nD) : Nat :=
  let c0_i32_279 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 32 := Scalar.addi v19 c1_i32_23
  let c4_i32 : BitVec 32 := 4#32
  let c0_i32_24 : BitVec 32 := 0#32
  let v59 : BitVec 1 := Scalar.cmpi .eq c4_i32 c0_i32_24
  let c1_i32_25 : BitVec 32 := 1#32
  let v60 : BitVec 32 := Scalar.select v59 c1_i32_25 c4_i32
  let v61 : BitVec 32 := Scalar.remsi v58 v60
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let c0_i32_26 : BitVec 32 := 0#32
  let v62 : BitVec 1 := Scalar.cmpi .ne v61 c0_i32_26
  let v66 : BitVec 1 := Scalar.andi v65 v62
  let v67 : BitVec 32 := Scalar.addi v61 v60
  let v68 : BitVec 32 := Scalar.select v66 v67 v61
  let v69 : BitVec 32 := Scalar.muli c8_i32_29 v68
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_30 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v72 : BitVec 32 := Scalar.xori v46 v46
  let c1_i32_31 : BitVec 32 := 1#32
  let v73 : BitVec 32 := Scalar.andi v72 c1_i32_31
  let v74 : BitVec 32 := Scalar.xori v56 v73
  let v75 : BitVec 32 := Scalar.addi v71 v74
  let c1_i32_278 : BitVec 32 := 1#32
  let v424 : BitVec 32 := Scalar.muli v75 c1_i32_278
  let v425 : BitVec 32 := Scalar.addi c0_i32_279 v424
  v425.toNat
def k0_dev27 (d0 : Dev nD) : Nat :=
  let c0_i32_286 : BitVec 32 := 0#32
  let c8_i32_39 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_32 : BitVec 32 := 2#32
  let v76 : BitVec 32 := Scalar.addi v19 c2_i32_32
  let c4_i32_33 : BitVec 32 := 4#32
  let c0_i32_34 : BitVec 32 := 0#32
  let v77 : BitVec 1 := Scalar.cmpi .eq c4_i32_33 c0_i32_34
  let c1_i32_35 : BitVec 32 := 1#32
  let v78 : BitVec 32 := Scalar.select v77 c1_i32_35 c4_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let v87 : BitVec 32 := Scalar.muli c8_i32_39 v86
  let c2_i32_40 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v88 : BitVec 32 := Scalar.muli c2_i32_40 v46
  let v89 : BitVec 32 := Scalar.addi v87 v88
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v90 : BitVec 32 := Scalar.xori v46 v46
  let c1_i32_41 : BitVec 32 := 1#32
  let v91 : BitVec 32 := Scalar.andi v90 c1_i32_41
  let v92 : BitVec 32 := Scalar.xori v56 v91
  let v93 : BitVec 32 := Scalar.addi v89 v92
  let c1_i32_285 : BitVec 32 := 1#32
  let v434 : BitVec 32 := Scalar.muli v93 c1_i32_285
  let v435 : BitVec 32 := Scalar.addi c0_i32_286 v434
  v435.toNat
def k0_dev28 (d0 : Dev nD) : Nat :=
  let c0_i32_293 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v94 : BitVec 32 := Scalar.addi v19 c3_i32
  let c4_i32_42 : BitVec 32 := 4#32
  let c0_i32_43 : BitVec 32 := 0#32
  let v95 : BitVec 1 := Scalar.cmpi .eq c4_i32_42 c0_i32_43
  let c1_i32_44 : BitVec 32 := 1#32
  let v96 : BitVec 32 := Scalar.select v95 c1_i32_44 c4_i32_42
  let v97 : BitVec 32 := Scalar.remsi v94 v96
  let c0_i32_46 : BitVec 32 := 0#32
  let v99 : BitVec 1 := Scalar.cmpi .slt v97 c0_i32_46
  let c0_i32_47 : BitVec 32 := 0#32
  let v100 : BitVec 1 := Scalar.cmpi .slt v96 c0_i32_47
  let v101 : BitVec 1 := Scalar.xori v99 v100
  let c0_i32_45 : BitVec 32 := 0#32
  let v98 : BitVec 1 := Scalar.cmpi .ne v97 c0_i32_45
  let v102 : BitVec 1 := Scalar.andi v101 v98
  let v103 : BitVec 32 := Scalar.addi v97 v96
  let v104 : BitVec 32 := Scalar.select v102 v103 v97
  let v105 : BitVec 32 := Scalar.muli c8_i32_48 v104
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v106 : BitVec 32 := Scalar.muli c2_i32_49 v46
  let v107 : BitVec 32 := Scalar.addi v105 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v108 : BitVec 32 := Scalar.xori v46 v46
  let c1_i32_50 : BitVec 32 := 1#32
  let v109 : BitVec 32 := Scalar.andi v108 c1_i32_50
  let v110 : BitVec 32 := Scalar.xori v56 v109
  let v111 : BitVec 32 := Scalar.addi v107 v110
  let c1_i32_292 : BitVec 32 := 1#32
  let v444 : BitVec 32 := Scalar.muli v111 c1_i32_292
  let v445 : BitVec 32 := Scalar.addi c0_i32_293 v444
  v445.toNat
def k0_dev29 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_299 : BitVec 32 := 1#32
  let v454 : BitVec 32 := Scalar.muli v166 c1_i32_299
  let v455 : BitVec 32 := Scalar.addi c0_i32_300 v454
  v455.toNat
def k0_dev30 (d0 : Dev nD) : Nat :=
  let c0_i32_326 : BitVec 32 := 0#32
  let c8_i32_58 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v123 : BitVec 32 := Scalar.muli c8_i32_58 v19
  let c2_i32_59 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_51 : BitVec 32 := 1#32
  let v112 : BitVec 32 := Scalar.addi v46 c1_i32_51
  let c4_i32_52 : BitVec 32 := 4#32
  let c0_i32_53 : BitVec 32 := 0#32
  let v113 : BitVec 1 := Scalar.cmpi .eq c4_i32_52 c0_i32_53
  let c1_i32_54 : BitVec 32 := 1#32
  let v114 : BitVec 32 := Scalar.select v113 c1_i32_54 c4_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let v124 : BitVec 32 := Scalar.muli c2_i32_59 v122
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v126 : BitVec 32 := Scalar.xori v46 v122
  let c1_i32_60 : BitVec 32 := 1#32
  let v127 : BitVec 32 := Scalar.andi v126 c1_i32_60
  let v128 : BitVec 32 := Scalar.xori v56 v127
  let v129 : BitVec 32 := Scalar.addi v125 v128
  let c1_i32_325 : BitVec 32 := 1#32
  let v491 : BitVec 32 := Scalar.muli v129 c1_i32_325
  let v492 : BitVec 32 := Scalar.addi c0_i32_326 v491
  v492.toNat
def k0_dev31 (d0 : Dev nD) : Nat :=
  let c0_i32_333 : BitVec 32 := 0#32
  let c8_i32_68 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v141 : BitVec 32 := Scalar.muli c8_i32_68 v19
  let c2_i32_69 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_61 : BitVec 32 := 2#32
  let v130 : BitVec 32 := Scalar.addi v46 c2_i32_61
  let c4_i32_62 : BitVec 32 := 4#32
  let c0_i32_63 : BitVec 32 := 0#32
  let v131 : BitVec 1 := Scalar.cmpi .eq c4_i32_62 c0_i32_63
  let c1_i32_64 : BitVec 32 := 1#32
  let v132 : BitVec 32 := Scalar.select v131 c1_i32_64 c4_i32_62
  let v133 : BitVec 32 := Scalar.remsi v130 v132
  let c0_i32_66 : BitVec 32 := 0#32
  let v135 : BitVec 1 := Scalar.cmpi .slt v133 c0_i32_66
  let c0_i32_67 : BitVec 32 := 0#32
  let v136 : BitVec 1 := Scalar.cmpi .slt v132 c0_i32_67
  let v137 : BitVec 1 := Scalar.xori v135 v136
  let c0_i32_65 : BitVec 32 := 0#32
  let v134 : BitVec 1 := Scalar.cmpi .ne v133 c0_i32_65
  let v138 : BitVec 1 := Scalar.andi v137 v134
  let v139 : BitVec 32 := Scalar.addi v133 v132
  let v140 : BitVec 32 := Scalar.select v138 v139 v133
  let v142 : BitVec 32 := Scalar.muli c2_i32_69 v140
  let v143 : BitVec 32 := Scalar.addi v141 v142
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v144 : BitVec 32 := Scalar.xori v46 v140
  let c1_i32_70 : BitVec 32 := 1#32
  let v145 : BitVec 32 := Scalar.andi v144 c1_i32_70
  let v146 : BitVec 32 := Scalar.xori v56 v145
  let v147 : BitVec 32 := Scalar.addi v143 v146
  let c1_i32_332 : BitVec 32 := 1#32
  let v501 : BitVec 32 := Scalar.muli v147 c1_i32_332
  let v502 : BitVec 32 := Scalar.addi c0_i32_333 v501
  v502.toNat
def k0_dev32 (d0 : Dev nD) : Nat :=
  let c0_i32_340 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v159 : BitVec 32 := Scalar.muli c8_i32_78 v19
  let c2_i32_79 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_71 : BitVec 32 := 3#32
  let v148 : BitVec 32 := Scalar.addi v46 c3_i32_71
  let c4_i32_72 : BitVec 32 := 4#32
  let c0_i32_73 : BitVec 32 := 0#32
  let v149 : BitVec 1 := Scalar.cmpi .eq c4_i32_72 c0_i32_73
  let c1_i32_74 : BitVec 32 := 1#32
  let v150 : BitVec 32 := Scalar.select v149 c1_i32_74 c4_i32_72
  let v151 : BitVec 32 := Scalar.remsi v148 v150
  let c0_i32_76 : BitVec 32 := 0#32
  let v153 : BitVec 1 := Scalar.cmpi .slt v151 c0_i32_76
  let c0_i32_77 : BitVec 32 := 0#32
  let v154 : BitVec 1 := Scalar.cmpi .slt v150 c0_i32_77
  let v155 : BitVec 1 := Scalar.xori v153 v154
  let c0_i32_75 : BitVec 32 := 0#32
  let v152 : BitVec 1 := Scalar.cmpi .ne v151 c0_i32_75
  let v156 : BitVec 1 := Scalar.andi v155 v152
  let v157 : BitVec 32 := Scalar.addi v151 v150
  let v158 : BitVec 32 := Scalar.select v156 v157 v151
  let v160 : BitVec 32 := Scalar.muli c2_i32_79 v158
  let v161 : BitVec 32 := Scalar.addi v159 v160
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v162 : BitVec 32 := Scalar.xori v46 v158
  let c1_i32_80 : BitVec 32 := 1#32
  let v163 : BitVec 32 := Scalar.andi v162 c1_i32_80
  let v164 : BitVec 32 := Scalar.xori v56 v163
  let v165 : BitVec 32 := Scalar.addi v161 v164
  let c1_i32_339 : BitVec 32 := 1#32
  let v511 : BitVec 32 := Scalar.muli v165 c1_i32_339
  let v512 : BitVec 32 := Scalar.addi c0_i32_340 v511
  v512.toNat
def k0_dev33 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_346 : BitVec 32 := 1#32
  let v521 : BitVec 32 := Scalar.muli v166 c1_i32_346
  let v522 : BitVec 32 := Scalar.addi c0_i32_347 v521
  v522.toNat
def k0_dev34 (d0 : Dev nD) : Nat :=
  let c0_i32_373 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 32 := Scalar.addi v19 c1_i32_23
  let c4_i32 : BitVec 32 := 4#32
  let c0_i32_24 : BitVec 32 := 0#32
  let v59 : BitVec 1 := Scalar.cmpi .eq c4_i32 c0_i32_24
  let c1_i32_25 : BitVec 32 := 1#32
  let v60 : BitVec 32 := Scalar.select v59 c1_i32_25 c4_i32
  let v61 : BitVec 32 := Scalar.remsi v58 v60
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let c0_i32_26 : BitVec 32 := 0#32
  let v62 : BitVec 1 := Scalar.cmpi .ne v61 c0_i32_26
  let v66 : BitVec 1 := Scalar.andi v65 v62
  let v67 : BitVec 32 := Scalar.addi v61 v60
  let v68 : BitVec 32 := Scalar.select v66 v67 v61
  let v69 : BitVec 32 := Scalar.muli c8_i32_29 v68
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_30 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v72 : BitVec 32 := Scalar.xori v46 v46
  let c1_i32_31 : BitVec 32 := 1#32
  let v73 : BitVec 32 := Scalar.andi v72 c1_i32_31
  let v74 : BitVec 32 := Scalar.xori v56 v73
  let v75 : BitVec 32 := Scalar.addi v71 v74
  let c1_i32_372 : BitVec 32 := 1#32
  let v558 : BitVec 32 := Scalar.muli v75 c1_i32_372
  let v559 : BitVec 32 := Scalar.addi c0_i32_373 v558
  v559.toNat
def k0_dev35 (d0 : Dev nD) : Nat :=
  let c0_i32_380 : BitVec 32 := 0#32
  let c8_i32_39 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_32 : BitVec 32 := 2#32
  let v76 : BitVec 32 := Scalar.addi v19 c2_i32_32
  let c4_i32_33 : BitVec 32 := 4#32
  let c0_i32_34 : BitVec 32 := 0#32
  let v77 : BitVec 1 := Scalar.cmpi .eq c4_i32_33 c0_i32_34
  let c1_i32_35 : BitVec 32 := 1#32
  let v78 : BitVec 32 := Scalar.select v77 c1_i32_35 c4_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let v87 : BitVec 32 := Scalar.muli c8_i32_39 v86
  let c2_i32_40 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v88 : BitVec 32 := Scalar.muli c2_i32_40 v46
  let v89 : BitVec 32 := Scalar.addi v87 v88
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v90 : BitVec 32 := Scalar.xori v46 v46
  let c1_i32_41 : BitVec 32 := 1#32
  let v91 : BitVec 32 := Scalar.andi v90 c1_i32_41
  let v92 : BitVec 32 := Scalar.xori v56 v91
  let v93 : BitVec 32 := Scalar.addi v89 v92
  let c1_i32_379 : BitVec 32 := 1#32
  let v568 : BitVec 32 := Scalar.muli v93 c1_i32_379
  let v569 : BitVec 32 := Scalar.addi c0_i32_380 v568
  v569.toNat
def k0_dev36 (d0 : Dev nD) : Nat :=
  let c0_i32_387 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v94 : BitVec 32 := Scalar.addi v19 c3_i32
  let c4_i32_42 : BitVec 32 := 4#32
  let c0_i32_43 : BitVec 32 := 0#32
  let v95 : BitVec 1 := Scalar.cmpi .eq c4_i32_42 c0_i32_43
  let c1_i32_44 : BitVec 32 := 1#32
  let v96 : BitVec 32 := Scalar.select v95 c1_i32_44 c4_i32_42
  let v97 : BitVec 32 := Scalar.remsi v94 v96
  let c0_i32_46 : BitVec 32 := 0#32
  let v99 : BitVec 1 := Scalar.cmpi .slt v97 c0_i32_46
  let c0_i32_47 : BitVec 32 := 0#32
  let v100 : BitVec 1 := Scalar.cmpi .slt v96 c0_i32_47
  let v101 : BitVec 1 := Scalar.xori v99 v100
  let c0_i32_45 : BitVec 32 := 0#32
  let v98 : BitVec 1 := Scalar.cmpi .ne v97 c0_i32_45
  let v102 : BitVec 1 := Scalar.andi v101 v98
  let v103 : BitVec 32 := Scalar.addi v97 v96
  let v104 : BitVec 32 := Scalar.select v102 v103 v97
  let v105 : BitVec 32 := Scalar.muli c8_i32_48 v104
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v106 : BitVec 32 := Scalar.muli c2_i32_49 v46
  let v107 : BitVec 32 := Scalar.addi v105 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v108 : BitVec 32 := Scalar.xori v46 v46
  let c1_i32_50 : BitVec 32 := 1#32
  let v109 : BitVec 32 := Scalar.andi v108 c1_i32_50
  let v110 : BitVec 32 := Scalar.xori v56 v109
  let v111 : BitVec 32 := Scalar.addi v107 v110
  let c1_i32_386 : BitVec 32 := 1#32
  let v578 : BitVec 32 := Scalar.muli v111 c1_i32_386
  let v579 : BitVec 32 := Scalar.addi c0_i32_387 v578
  v579.toNat
def k0_dev37 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_393 : BitVec 32 := 1#32
  let v588 : BitVec 32 := Scalar.muli v166 c1_i32_393
  let v589 : BitVec 32 := Scalar.addi c0_i32_394 v588
  v589.toNat
def k0_dev38 (d0 : Dev nD) : Nat :=
  let c0_i32_421 : BitVec 32 := 0#32
  let c8_i32_58 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v123 : BitVec 32 := Scalar.muli c8_i32_58 v19
  let c2_i32_59 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_51 : BitVec 32 := 1#32
  let v112 : BitVec 32 := Scalar.addi v46 c1_i32_51
  let c4_i32_52 : BitVec 32 := 4#32
  let c0_i32_53 : BitVec 32 := 0#32
  let v113 : BitVec 1 := Scalar.cmpi .eq c4_i32_52 c0_i32_53
  let c1_i32_54 : BitVec 32 := 1#32
  let v114 : BitVec 32 := Scalar.select v113 c1_i32_54 c4_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let v124 : BitVec 32 := Scalar.muli c2_i32_59 v122
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v126 : BitVec 32 := Scalar.xori v46 v122
  let c1_i32_60 : BitVec 32 := 1#32
  let v127 : BitVec 32 := Scalar.andi v126 c1_i32_60
  let v128 : BitVec 32 := Scalar.xori v56 v127
  let v129 : BitVec 32 := Scalar.addi v125 v128
  let c1_i32_420 : BitVec 32 := 1#32
  let v625 : BitVec 32 := Scalar.muli v129 c1_i32_420
  let v626 : BitVec 32 := Scalar.addi c0_i32_421 v625
  v626.toNat
def k0_dev39 (d0 : Dev nD) : Nat :=
  let c0_i32_429 : BitVec 32 := 0#32
  let c8_i32_68 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v141 : BitVec 32 := Scalar.muli c8_i32_68 v19
  let c2_i32_69 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_61 : BitVec 32 := 2#32
  let v130 : BitVec 32 := Scalar.addi v46 c2_i32_61
  let c4_i32_62 : BitVec 32 := 4#32
  let c0_i32_63 : BitVec 32 := 0#32
  let v131 : BitVec 1 := Scalar.cmpi .eq c4_i32_62 c0_i32_63
  let c1_i32_64 : BitVec 32 := 1#32
  let v132 : BitVec 32 := Scalar.select v131 c1_i32_64 c4_i32_62
  let v133 : BitVec 32 := Scalar.remsi v130 v132
  let c0_i32_66 : BitVec 32 := 0#32
  let v135 : BitVec 1 := Scalar.cmpi .slt v133 c0_i32_66
  let c0_i32_67 : BitVec 32 := 0#32
  let v136 : BitVec 1 := Scalar.cmpi .slt v132 c0_i32_67
  let v137 : BitVec 1 := Scalar.xori v135 v136
  let c0_i32_65 : BitVec 32 := 0#32
  let v134 : BitVec 1 := Scalar.cmpi .ne v133 c0_i32_65
  let v138 : BitVec 1 := Scalar.andi v137 v134
  let v139 : BitVec 32 := Scalar.addi v133 v132
  let v140 : BitVec 32 := Scalar.select v138 v139 v133
  let v142 : BitVec 32 := Scalar.muli c2_i32_69 v140
  let v143 : BitVec 32 := Scalar.addi v141 v142
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v144 : BitVec 32 := Scalar.xori v46 v140
  let c1_i32_70 : BitVec 32 := 1#32
  let v145 : BitVec 32 := Scalar.andi v144 c1_i32_70
  let v146 : BitVec 32 := Scalar.xori v56 v145
  let v147 : BitVec 32 := Scalar.addi v143 v146
  let c1_i32_428 : BitVec 32 := 1#32
  let v635 : BitVec 32 := Scalar.muli v147 c1_i32_428
  let v636 : BitVec 32 := Scalar.addi c0_i32_429 v635
  v636.toNat
def k0_dev40 (d0 : Dev nD) : Nat :=
  let c0_i32_436 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v159 : BitVec 32 := Scalar.muli c8_i32_78 v19
  let c2_i32_79 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_71 : BitVec 32 := 3#32
  let v148 : BitVec 32 := Scalar.addi v46 c3_i32_71
  let c4_i32_72 : BitVec 32 := 4#32
  let c0_i32_73 : BitVec 32 := 0#32
  let v149 : BitVec 1 := Scalar.cmpi .eq c4_i32_72 c0_i32_73
  let c1_i32_74 : BitVec 32 := 1#32
  let v150 : BitVec 32 := Scalar.select v149 c1_i32_74 c4_i32_72
  let v151 : BitVec 32 := Scalar.remsi v148 v150
  let c0_i32_76 : BitVec 32 := 0#32
  let v153 : BitVec 1 := Scalar.cmpi .slt v151 c0_i32_76
  let c0_i32_77 : BitVec 32 := 0#32
  let v154 : BitVec 1 := Scalar.cmpi .slt v150 c0_i32_77
  let v155 : BitVec 1 := Scalar.xori v153 v154
  let c0_i32_75 : BitVec 32 := 0#32
  let v152 : BitVec 1 := Scalar.cmpi .ne v151 c0_i32_75
  let v156 : BitVec 1 := Scalar.andi v155 v152
  let v157 : BitVec 32 := Scalar.addi v151 v150
  let v158 : BitVec 32 := Scalar.select v156 v157 v151
  let v160 : BitVec 32 := Scalar.muli c2_i32_79 v158
  let v161 : BitVec 32 := Scalar.addi v159 v160
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v162 : BitVec 32 := Scalar.xori v46 v158
  let c1_i32_80 : BitVec 32 := 1#32
  let v163 : BitVec 32 := Scalar.andi v162 c1_i32_80
  let v164 : BitVec 32 := Scalar.xori v56 v163
  let v165 : BitVec 32 := Scalar.addi v161 v164
  let c1_i32_435 : BitVec 32 := 1#32
  let v645 : BitVec 32 := Scalar.muli v165 c1_i32_435
  let v646 : BitVec 32 := Scalar.addi c0_i32_436 v645
  v646.toNat
def k0_dev41 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_442 : BitVec 32 := 1#32
  let v655 : BitVec 32 := Scalar.muli v166 c1_i32_442
  let v656 : BitVec 32 := Scalar.addi c0_i32_443 v655
  v656.toNat
def k0_dev42 (d0 : Dev nD) : Nat :=
  let c0_i32_469 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 32 := Scalar.addi v19 c1_i32_23
  let c4_i32 : BitVec 32 := 4#32
  let c0_i32_24 : BitVec 32 := 0#32
  let v59 : BitVec 1 := Scalar.cmpi .eq c4_i32 c0_i32_24
  let c1_i32_25 : BitVec 32 := 1#32
  let v60 : BitVec 32 := Scalar.select v59 c1_i32_25 c4_i32
  let v61 : BitVec 32 := Scalar.remsi v58 v60
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let c0_i32_26 : BitVec 32 := 0#32
  let v62 : BitVec 1 := Scalar.cmpi .ne v61 c0_i32_26
  let v66 : BitVec 1 := Scalar.andi v65 v62
  let v67 : BitVec 32 := Scalar.addi v61 v60
  let v68 : BitVec 32 := Scalar.select v66 v67 v61
  let v69 : BitVec 32 := Scalar.muli c8_i32_29 v68
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_30 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v72 : BitVec 32 := Scalar.xori v46 v46
  let c1_i32_31 : BitVec 32 := 1#32
  let v73 : BitVec 32 := Scalar.andi v72 c1_i32_31
  let v74 : BitVec 32 := Scalar.xori v56 v73
  let v75 : BitVec 32 := Scalar.addi v71 v74
  let c1_i32_468 : BitVec 32 := 1#32
  let v692 : BitVec 32 := Scalar.muli v75 c1_i32_468
  let v693 : BitVec 32 := Scalar.addi c0_i32_469 v692
  v693.toNat
def k0_dev43 (d0 : Dev nD) : Nat :=
  let c0_i32_476 : BitVec 32 := 0#32
  let c8_i32_39 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_32 : BitVec 32 := 2#32
  let v76 : BitVec 32 := Scalar.addi v19 c2_i32_32
  let c4_i32_33 : BitVec 32 := 4#32
  let c0_i32_34 : BitVec 32 := 0#32
  let v77 : BitVec 1 := Scalar.cmpi .eq c4_i32_33 c0_i32_34
  let c1_i32_35 : BitVec 32 := 1#32
  let v78 : BitVec 32 := Scalar.select v77 c1_i32_35 c4_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let v87 : BitVec 32 := Scalar.muli c8_i32_39 v86
  let c2_i32_40 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v88 : BitVec 32 := Scalar.muli c2_i32_40 v46
  let v89 : BitVec 32 := Scalar.addi v87 v88
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v90 : BitVec 32 := Scalar.xori v46 v46
  let c1_i32_41 : BitVec 32 := 1#32
  let v91 : BitVec 32 := Scalar.andi v90 c1_i32_41
  let v92 : BitVec 32 := Scalar.xori v56 v91
  let v93 : BitVec 32 := Scalar.addi v89 v92
  let c1_i32_475 : BitVec 32 := 1#32
  let v702 : BitVec 32 := Scalar.muli v93 c1_i32_475
  let v703 : BitVec 32 := Scalar.addi c0_i32_476 v702
  v703.toNat
def k0_dev44 (d0 : Dev nD) : Nat :=
  let c0_i32_483 : BitVec 32 := 0#32
  let c8_i32_48 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v94 : BitVec 32 := Scalar.addi v19 c3_i32
  let c4_i32_42 : BitVec 32 := 4#32
  let c0_i32_43 : BitVec 32 := 0#32
  let v95 : BitVec 1 := Scalar.cmpi .eq c4_i32_42 c0_i32_43
  let c1_i32_44 : BitVec 32 := 1#32
  let v96 : BitVec 32 := Scalar.select v95 c1_i32_44 c4_i32_42
  let v97 : BitVec 32 := Scalar.remsi v94 v96
  let c0_i32_46 : BitVec 32 := 0#32
  let v99 : BitVec 1 := Scalar.cmpi .slt v97 c0_i32_46
  let c0_i32_47 : BitVec 32 := 0#32
  let v100 : BitVec 1 := Scalar.cmpi .slt v96 c0_i32_47
  let v101 : BitVec 1 := Scalar.xori v99 v100
  let c0_i32_45 : BitVec 32 := 0#32
  let v98 : BitVec 1 := Scalar.cmpi .ne v97 c0_i32_45
  let v102 : BitVec 1 := Scalar.andi v101 v98
  let v103 : BitVec 32 := Scalar.addi v97 v96
  let v104 : BitVec 32 := Scalar.select v102 v103 v97
  let v105 : BitVec 32 := Scalar.muli c8_i32_48 v104
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v106 : BitVec 32 := Scalar.muli c2_i32_49 v46
  let v107 : BitVec 32 := Scalar.addi v105 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v108 : BitVec 32 := Scalar.xori v46 v46
  let c1_i32_50 : BitVec 32 := 1#32
  let v109 : BitVec 32 := Scalar.andi v108 c1_i32_50
  let v110 : BitVec 32 := Scalar.xori v56 v109
  let v111 : BitVec 32 := Scalar.addi v107 v110
  let c1_i32_482 : BitVec 32 := 1#32
  let v712 : BitVec 32 := Scalar.muli v111 c1_i32_482
  let v713 : BitVec 32 := Scalar.addi c0_i32_483 v712
  v713.toNat
def k0_dev45 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_489 : BitVec 32 := 1#32
  let v722 : BitVec 32 := Scalar.muli v166 c1_i32_489
  let v723 : BitVec 32 := Scalar.addi c0_i32_490 v722
  v723.toNat
def k0_off6 (d0 : Dev nD) (c0_i32_501 : BitVec 32) (c1_i32_494 : BitVec 32) : Fin 2 → Nat :=
  let c8_i32_508 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v742 : BitVec 32 := Scalar.addi v19 c0_i32_501
  let c4_i32_502 : BitVec 32 := 4#32
  let c0_i32_503 : BitVec 32 := 0#32
  let v743 : BitVec 1 := Scalar.cmpi .eq c4_i32_502 c0_i32_503
  let c1_i32_504 : BitVec 32 := 1#32
  let v744 : BitVec 32 := Scalar.select v743 c1_i32_504 c4_i32_502
  let v745 : BitVec 32 := Scalar.remsi v742 v744
  let c0_i32_506 : BitVec 32 := 0#32
  let v747 : BitVec 1 := Scalar.cmpi .slt v745 c0_i32_506
  let c0_i32_507 : BitVec 32 := 0#32
  let v748 : BitVec 1 := Scalar.cmpi .slt v744 c0_i32_507
  let v749 : BitVec 1 := Scalar.xori v747 v748
  let c0_i32_505 : BitVec 32 := 0#32
  let v746 : BitVec 1 := Scalar.cmpi .ne v745 c0_i32_505
  let v750 : BitVec 1 := Scalar.andi v749 v746
  let v751 : BitVec 32 := Scalar.addi v745 v744
  let v752 : BitVec 32 := Scalar.select v750 v751 v745
  let v753 : BitVec 32 := Scalar.muli c8_i32_508 v752
  let c2_i32_509 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4_i32_493 : BitVec 32 := 4#32
  let v730 : BitVec 32 := Scalar.addi v46 c4_i32_493
  let v731 : BitVec 32 := Scalar.subi v730 c1_i32_494
  let c4_i32_495 : BitVec 32 := 4#32
  let c0_i32_496 : BitVec 32 := 0#32
  let v732 : BitVec 1 := Scalar.cmpi .eq c4_i32_495 c0_i32_496
  let c1_i32_497 : BitVec 32 := 1#32
  let v733 : BitVec 32 := Scalar.select v732 c1_i32_497 c4_i32_495
  let v734 : BitVec 32 := Scalar.remsi v731 v733
  let c0_i32_499 : BitVec 32 := 0#32
  let v736 : BitVec 1 := Scalar.cmpi .slt v734 c0_i32_499
  let c0_i32_500 : BitVec 32 := 0#32
  let v737 : BitVec 1 := Scalar.cmpi .slt v733 c0_i32_500
  let v738 : BitVec 1 := Scalar.xori v736 v737
  let c0_i32_498 : BitVec 32 := 0#32
  let v735 : BitVec 1 := Scalar.cmpi .ne v734 c0_i32_498
  let v739 : BitVec 1 := Scalar.andi v738 v735
  let v740 : BitVec 32 := Scalar.addi v734 v733
  let v741 : BitVec 32 := Scalar.select v739 v740 v734
  let v754 : BitVec 32 := Scalar.muli c2_i32_509 v741
  let v755 : BitVec 32 := Scalar.addi v753 v754
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v756 : BitVec 32 := Scalar.xori v46 v741
  let c1_i32_510 : BitVec 32 := 1#32
  let v757 : BitVec 32 := Scalar.andi v756 c1_i32_510
  let v758 : BitVec 32 := Scalar.xori v56 v757
  let v759 : BitVec 32 := Scalar.addi v755 v758
  let c32_i32_512 : BitVec 32 := 32#32
  let v761 : BitVec 32 := Scalar.muli v759 c32_i32_512
  let c0_i32_517 : BitVec 32 := 0#32
  ![v761.toNat, 0]
def k0_dev46 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_522 : BitVec 32 := 1#32
  let v770 : BitVec 32 := Scalar.muli v166 c1_i32_522
  let v771 : BitVec 32 := Scalar.addi c0_i32_523 v770
  v771.toNat
def k0_off7 (d0 : Dev nD) (c1_i32_534 : BitVec 32) (c0_i32_526 : BitVec 32) : Fin 2 → Nat :=
  let c8_i32_541 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_533 : BitVec 32 := 4#32
  let v789 : BitVec 32 := Scalar.addi v19 c4_i32_533
  let v790 : BitVec 32 := Scalar.subi v789 c1_i32_534
  let c4_i32_535 : BitVec 32 := 4#32
  let c0_i32_536 : BitVec 32 := 0#32
  let v791 : BitVec 1 := Scalar.cmpi .eq c4_i32_535 c0_i32_536
  let c1_i32_537 : BitVec 32 := 1#32
  let v792 : BitVec 32 := Scalar.select v791 c1_i32_537 c4_i32_535
  let v793 : BitVec 32 := Scalar.remsi v790 v792
  let c0_i32_539 : BitVec 32 := 0#32
  let v795 : BitVec 1 := Scalar.cmpi .slt v793 c0_i32_539
  let c0_i32_540 : BitVec 32 := 0#32
  let v796 : BitVec 1 := Scalar.cmpi .slt v792 c0_i32_540
  let v797 : BitVec 1 := Scalar.xori v795 v796
  let c0_i32_538 : BitVec 32 := 0#32
  let v794 : BitVec 1 := Scalar.cmpi .ne v793 c0_i32_538
  let v798 : BitVec 1 := Scalar.andi v797 v794
  let v799 : BitVec 32 := Scalar.addi v793 v792
  let v800 : BitVec 32 := Scalar.select v798 v799 v793
  let v801 : BitVec 32 := Scalar.muli c8_i32_541 v800
  let c2_i32_542 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v778 : BitVec 32 := Scalar.addi v46 c0_i32_526
  let c4_i32_527 : BitVec 32 := 4#32
  let c0_i32_528 : BitVec 32 := 0#32
  let v779 : BitVec 1 := Scalar.cmpi .eq c4_i32_527 c0_i32_528
  let c1_i32_529 : BitVec 32 := 1#32
  let v780 : BitVec 32 := Scalar.select v779 c1_i32_529 c4_i32_527
  let v781 : BitVec 32 := Scalar.remsi v778 v780
  let c0_i32_531 : BitVec 32 := 0#32
  let v783 : BitVec 1 := Scalar.cmpi .slt v781 c0_i32_531
  let c0_i32_532 : BitVec 32 := 0#32
  let v784 : BitVec 1 := Scalar.cmpi .slt v780 c0_i32_532
  let v785 : BitVec 1 := Scalar.xori v783 v784
  let c0_i32_530 : BitVec 32 := 0#32
  let v782 : BitVec 1 := Scalar.cmpi .ne v781 c0_i32_530
  let v786 : BitVec 1 := Scalar.andi v785 v782
  let v787 : BitVec 32 := Scalar.addi v781 v780
  let v788 : BitVec 32 := Scalar.select v786 v787 v781
  let v802 : BitVec 32 := Scalar.muli c2_i32_542 v788
  let v803 : BitVec 32 := Scalar.addi v801 v802
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v804 : BitVec 32 := Scalar.xori v46 v788
  let c1_i32_543 : BitVec 32 := 1#32
  let v805 : BitVec 32 := Scalar.andi v804 c1_i32_543
  let v806 : BitVec 32 := Scalar.xori v56 v805
  let v807 : BitVec 32 := Scalar.addi v803 v806
  let c32_i32_545 : BitVec 32 := 32#32
  let v809 : BitVec 32 := Scalar.muli v807 c32_i32_545
  let c512_i32_550 : BitVec 32 := 512#32
  ![v809.toNat, 512]
def k0_dev47 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_555 : BitVec 32 := 1#32
  let v818 : BitVec 32 := Scalar.muli v166 c1_i32_555
  let v819 : BitVec 32 := Scalar.addi c0_i32_556 v818
  v819.toNat
def k0_dev48 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_588 : BitVec 32 := 1#32
  let v866 : BitVec 32 := Scalar.muli v166 c1_i32_588
  let v867 : BitVec 32 := Scalar.addi c0_i32_589 v866
  v867.toNat
def k0_dev49 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_621 : BitVec 32 := 1#32
  let v914 : BitVec 32 := Scalar.muli v166 c1_i32_621
  let v915 : BitVec 32 := Scalar.addi c0_i32_622 v914
  v915.toNat
def k0_dev50 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_654 : BitVec 32 := 1#32
  let v962 : BitVec 32 := Scalar.muli v166 c1_i32_654
  let v963 : BitVec 32 := Scalar.addi c0_i32_655 v962
  v963.toNat
def k0_dev51 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_687 : BitVec 32 := 1#32
  let v1010 : BitVec 32 := Scalar.muli v166 c1_i32_687
  let v1011 : BitVec 32 := Scalar.addi c0_i32_688 v1010
  v1011.toNat
def k0_dev52 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_720 : BitVec 32 := 1#32
  let v1058 : BitVec 32 := Scalar.muli v166 c1_i32_720
  let v1059 : BitVec 32 := Scalar.addi c0_i32_721 v1058
  v1059.toNat
def k0_dev53 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_753 : BitVec 32 := 1#32
  let v1106 : BitVec 32 := Scalar.muli v166 c1_i32_753
  let v1107 : BitVec 32 := Scalar.addi c0_i32_754 v1106
  v1107.toNat
def k0_dev54 (d0 : Dev nD) : Nat :=
  let c0_i32_787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_786 : BitVec 32 := 1#32
  let v1154 : BitVec 32 := Scalar.muli v166 c1_i32_786
  let v1155 : BitVec 32 := Scalar.addi c0_i32_787 v1154
  v1155.toNat
def k0_dev55 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_819 : BitVec 32 := 1#32
  let v1202 : BitVec 32 := Scalar.muli v166 c1_i32_819
  let v1203 : BitVec 32 := Scalar.addi c0_i32_820 v1202
  v1203.toNat
def k0_dev56 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_852 : BitVec 32 := 1#32
  let v1250 : BitVec 32 := Scalar.muli v166 c1_i32_852
  let v1251 : BitVec 32 := Scalar.addi c0_i32_853 v1250
  v1251.toNat
def k0_dev57 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_885 : BitVec 32 := 1#32
  let v1298 : BitVec 32 := Scalar.muli v166 c1_i32_885
  let v1299 : BitVec 32 := Scalar.addi c0_i32_886 v1298
  v1299.toNat
def k0_dev58 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_918 : BitVec 32 := 1#32
  let v1346 : BitVec 32 := Scalar.muli v166 c1_i32_918
  let v1347 : BitVec 32 := Scalar.addi c0_i32_919 v1346
  v1347.toNat
def k0_dev59 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_951 : BitVec 32 := 1#32
  let v1394 : BitVec 32 := Scalar.muli v166 c1_i32_951
  let v1395 : BitVec 32 := Scalar.addi c0_i32_952 v1394
  v1395.toNat
def k0_dev60 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_984 : BitVec 32 := 1#32
  let v1442 : BitVec 32 := Scalar.muli v166 c1_i32_984
  let v1443 : BitVec 32 := Scalar.addi c0_i32_985 v1442
  v1443.toNat
def k0_dev61 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1017 : BitVec 32 := 1#32
  let v1490 : BitVec 32 := Scalar.muli v166 c1_i32_1017
  let v1491 : BitVec 32 := Scalar.addi c0_i32_1018 v1490
  v1491.toNat
def k0_dev62 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1050 : BitVec 32 := 1#32
  let v1538 : BitVec 32 := Scalar.muli v166 c1_i32_1050
  let v1539 : BitVec 32 := Scalar.addi c0_i32_1051 v1538
  v1539.toNat
def k0_dev63 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1083 : BitVec 32 := 1#32
  let v1586 : BitVec 32 := Scalar.muli v166 c1_i32_1083
  let v1587 : BitVec 32 := Scalar.addi c0_i32_1084 v1586
  v1587.toNat
def k0_dev64 (d0 : Dev nD) : Nat :=
  let c0_i32_1117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1116 : BitVec 32 := 1#32
  let v1634 : BitVec 32 := Scalar.muli v166 c1_i32_1116
  let v1635 : BitVec 32 := Scalar.addi c0_i32_1117 v1634
  v1635.toNat
def k0_dev65 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1149 : BitVec 32 := 1#32
  let v1682 : BitVec 32 := Scalar.muli v166 c1_i32_1149
  let v1683 : BitVec 32 := Scalar.addi c0_i32_1150 v1682
  v1683.toNat
def k0_dev66 (d0 : Dev nD) : Nat :=
  let c0_i32_1183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1182 : BitVec 32 := 1#32
  let v1730 : BitVec 32 := Scalar.muli v166 c1_i32_1182
  let v1731 : BitVec 32 := Scalar.addi c0_i32_1183 v1730
  v1731.toNat
def k0_dev67 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1215 : BitVec 32 := 1#32
  let v1778 : BitVec 32 := Scalar.muli v166 c1_i32_1215
  let v1779 : BitVec 32 := Scalar.addi c0_i32_1216 v1778
  v1779.toNat
def k0_dev68 (d0 : Dev nD) : Nat :=
  let c0_i32_1249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1248 : BitVec 32 := 1#32
  let v1826 : BitVec 32 := Scalar.muli v166 c1_i32_1248
  let v1827 : BitVec 32 := Scalar.addi c0_i32_1249 v1826
  v1827.toNat
def k0_dev69 (d0 : Dev nD) : Nat :=
  let c0_i32_1282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v166 : BitVec 32 := Scalar.xori v2 c1_i32_81
  let c1_i32_1281 : BitVec 32 := 1#32
  let v1874 : BitVec 32 := Scalar.muli v166 c1_i32_1281
  let v1875 : BitVec 32 := Scalar.addi c0_i32_1282 v1874
  v1875.toNat
def k0_off8 (d0 : Dev nD) (c0_i32_1292 : BitVec 32) (c0_i32_1285 : BitVec 32) : Fin 2 → Nat :=
  let c8_i32_1299 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1893 : BitVec 32 := Scalar.addi v19 c0_i32_1292
  let c4_i32_1293 : BitVec 32 := 4#32
  let c0_i32_1294 : BitVec 32 := 0#32
  let v1894 : BitVec 1 := Scalar.cmpi .eq c4_i32_1293 c0_i32_1294
  let c1_i32_1295 : BitVec 32 := 1#32
  let v1895 : BitVec 32 := Scalar.select v1894 c1_i32_1295 c4_i32_1293
  let v1896 : BitVec 32 := Scalar.remsi v1893 v1895
  let c0_i32_1297 : BitVec 32 := 0#32
  let v1898 : BitVec 1 := Scalar.cmpi .slt v1896 c0_i32_1297
  let c0_i32_1298 : BitVec 32 := 0#32
  let v1899 : BitVec 1 := Scalar.cmpi .slt v1895 c0_i32_1298
  let v1900 : BitVec 1 := Scalar.xori v1898 v1899
  let c0_i32_1296 : BitVec 32 := 0#32
  let v1897 : BitVec 1 := Scalar.cmpi .ne v1896 c0_i32_1296
  let v1901 : BitVec 1 := Scalar.andi v1900 v1897
  let v1902 : BitVec 32 := Scalar.addi v1896 v1895
  let v1903 : BitVec 32 := Scalar.select v1901 v1902 v1896
  let v1904 : BitVec 32 := Scalar.muli c8_i32_1299 v1903
  let c2_i32_1300 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1882 : BitVec 32 := Scalar.addi v46 c0_i32_1285
  let c4_i32_1286 : BitVec 32 := 4#32
  let c0_i32_1287 : BitVec 32 := 0#32
  let v1883 : BitVec 1 := Scalar.cmpi .eq c4_i32_1286 c0_i32_1287
  let c1_i32_1288 : BitVec 32 := 1#32
  let v1884 : BitVec 32 := Scalar.select v1883 c1_i32_1288 c4_i32_1286
  let v1885 : BitVec 32 := Scalar.remsi v1882 v1884
  let c0_i32_1290 : BitVec 32 := 0#32
  let v1887 : BitVec 1 := Scalar.cmpi .slt v1885 c0_i32_1290
  let c0_i32_1291 : BitVec 32 := 0#32
  let v1888 : BitVec 1 := Scalar.cmpi .slt v1884 c0_i32_1291
  let v1889 : BitVec 1 := Scalar.xori v1887 v1888
  let c0_i32_1289 : BitVec 32 := 0#32
  let v1886 : BitVec 1 := Scalar.cmpi .ne v1885 c0_i32_1289
  let v1890 : BitVec 1 := Scalar.andi v1889 v1886
  let v1891 : BitVec 32 := Scalar.addi v1885 v1884
  let v1892 : BitVec 32 := Scalar.select v1890 v1891 v1885
  let v1905 : BitVec 32 := Scalar.muli c2_i32_1300 v1892
  let v1906 : BitVec 32 := Scalar.addi v1904 v1905
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v1907 : BitVec 32 := Scalar.xori v46 v1892
  let c1_i32_1301 : BitVec 32 := 1#32
  let v1908 : BitVec 32 := Scalar.andi v1907 c1_i32_1301
  let v1909 : BitVec 32 := Scalar.xori v56 v1908
  let v1910 : BitVec 32 := Scalar.addi v1906 v1909
  let c1_i32_1302 : BitVec 32 := 1#32
  let v1911 : BitVec 32 := Scalar.xori v1910 c1_i32_1302
  let c32_i32_1304 : BitVec 32 := 32#32
  let v1913 : BitVec 32 := Scalar.muli v1911 c32_i32_1304
  let c0_i32_1309 : BitVec 32 := 0#32
  ![v1913.toNat, 0]
def k0_off9 (d0 : Dev nD) (c0_i32_1318 : BitVec 32) (c0_i32_1311 : BitVec 32) : Fin 2 → Nat :=
  let c8_i32_1325 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1931 : BitVec 32 := Scalar.addi v19 c0_i32_1318
  let c4_i32_1319 : BitVec 32 := 4#32
  let c0_i32_1320 : BitVec 32 := 0#32
  let v1932 : BitVec 1 := Scalar.cmpi .eq c4_i32_1319 c0_i32_1320
  let c1_i32_1321 : BitVec 32 := 1#32
  let v1933 : BitVec 32 := Scalar.select v1932 c1_i32_1321 c4_i32_1319
  let v1934 : BitVec 32 := Scalar.remsi v1931 v1933
  let c0_i32_1323 : BitVec 32 := 0#32
  let v1936 : BitVec 1 := Scalar.cmpi .slt v1934 c0_i32_1323
  let c0_i32_1324 : BitVec 32 := 0#32
  let v1937 : BitVec 1 := Scalar.cmpi .slt v1933 c0_i32_1324
  let v1938 : BitVec 1 := Scalar.xori v1936 v1937
  let c0_i32_1322 : BitVec 32 := 0#32
  let v1935 : BitVec 1 := Scalar.cmpi .ne v1934 c0_i32_1322
  let v1939 : BitVec 1 := Scalar.andi v1938 v1935
  let v1940 : BitVec 32 := Scalar.addi v1934 v1933
  let v1941 : BitVec 32 := Scalar.select v1939 v1940 v1934
  let v1942 : BitVec 32 := Scalar.muli c8_i32_1325 v1941
  let c2_i32_1326 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1920 : BitVec 32 := Scalar.addi v46 c0_i32_1311
  let c4_i32_1312 : BitVec 32 := 4#32
  let c0_i32_1313 : BitVec 32 := 0#32
  let v1921 : BitVec 1 := Scalar.cmpi .eq c4_i32_1312 c0_i32_1313
  let c1_i32_1314 : BitVec 32 := 1#32
  let v1922 : BitVec 32 := Scalar.select v1921 c1_i32_1314 c4_i32_1312
  let v1923 : BitVec 32 := Scalar.remsi v1920 v1922
  let c0_i32_1316 : BitVec 32 := 0#32
  let v1925 : BitVec 1 := Scalar.cmpi .slt v1923 c0_i32_1316
  let c0_i32_1317 : BitVec 32 := 0#32
  let v1926 : BitVec 1 := Scalar.cmpi .slt v1922 c0_i32_1317
  let v1927 : BitVec 1 := Scalar.xori v1925 v1926
  let c0_i32_1315 : BitVec 32 := 0#32
  let v1924 : BitVec 1 := Scalar.cmpi .ne v1923 c0_i32_1315
  let v1928 : BitVec 1 := Scalar.andi v1927 v1924
  let v1929 : BitVec 32 := Scalar.addi v1923 v1922
  let v1930 : BitVec 32 := Scalar.select v1928 v1929 v1923
  let v1943 : BitVec 32 := Scalar.muli c2_i32_1326 v1930
  let v1944 : BitVec 32 := Scalar.addi v1942 v1943
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v1945 : BitVec 32 := Scalar.xori v46 v1930
  let c1_i32_1327 : BitVec 32 := 1#32
  let v1946 : BitVec 32 := Scalar.andi v1945 c1_i32_1327
  let v1947 : BitVec 32 := Scalar.xori v56 v1946
  let v1948 : BitVec 32 := Scalar.addi v1944 v1947
  let c1_i32_1328 : BitVec 32 := 1#32
  let v1949 : BitVec 32 := Scalar.xori v1948 c1_i32_1328
  let c32_i32_1330 : BitVec 32 := 32#32
  let v1951 : BitVec 32 := Scalar.muli v1949 c32_i32_1330
  let c512_i32_1335 : BitVec 32 := 512#32
  ![v1951.toNat, 512]
abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Tables.lean ====
/-
# The transfers of the all-gather, as tables

The kernel runs on 32 devices. It numbers its remote copies `0, …, 61`; every device sends one chunk (32 rows by 512
columns) under every number and receives one under every number. The devices are a 4 × 4 × 2 grid, and in the right
coordinates every number `i` is a TRANSLATION of that grid: device `c` sends to `c` moved by `mv i` a chunk of the
device at `c` moved by `src i`. This module states the printed device numbers and offsets as tables, and decides that
they are those translations.
-/
module

public import proofs.«01_k».proof.Proof.Gen.KernelIdeal
public import Mathlib.Algebra.Group.Fin.Basic

@[expose] public section

noncomputable section

namespace Cert.GatherProof

open Cert.KernelIdeal Cert.KernelIdeal.Gen
open Idealize.ShloMosaic

/-- The number of a transfer. -/
abbrev Sid : Type := Fin 62
/-- The number of an entry signal. -/
abbrev Pid : Type := Fin 7

/-! ## The printed numbers -/

/-- The device the entry signal number `p` of device `c` goes to, as printed. -/
def peerDevN (p : Pid) (c : Dev nD) : ℕ := match p with
  | 0 => k0_dev1 c
  | 1 => k0_dev2 c
  | 2 => k0_dev3 c
  | 3 => k0_dev4 c
  | 4 => k0_dev5 c
  | 5 => k0_dev6 c
  | _ => k0_dev7 c

/-- The number of the device the transfer with number `i` is addressed to, as the printed kernel computes it on
    device `c`. -/
def sendDevN (i : Sid) (c : Dev nD) : ℕ := match i with
  | 0 => k0_dev8 c
  | 1 => k0_dev9 c
  | 2 => k0_dev10 c
  | 3 => k0_dev14 c
  | 4 => k0_dev38 c
  | 5 => k0_dev30 c
  | 6 => k0_dev22 c
  | 7 => k0_dev15 c
  | 8 => k0_dev39 c
  | 9 => k0_dev31 c
  | 10 => k0_dev23 c
  | 11 => k0_dev16 c
  | 12 => k0_dev40 c
  | 13 => k0_dev32 c
  | 14 => k0_dev24 c
  | 15 => k0_dev20 c
  | 16 => k0_dev41 c
  | 17 => k0_dev33 c
  | 18 => k0_dev25 c
  | 19 => k0_dev50 c
  | 20 => k0_dev68 c
  | 21 => k0_dev62 c
  | 22 => k0_dev56 c
  | 23 => k0_dev48 c
  | 24 => k0_dev66 c
  | 25 => k0_dev60 c
  | 26 => k0_dev54 c
  | 27 => k0_dev46 c
  | 28 => k0_dev64 c
  | 29 => k0_dev58 c
  | 30 => k0_dev52 c
  | 31 => k0_dev11 c
  | 32 => k0_dev12 c
  | 33 => k0_dev13 c
  | 34 => k0_dev17 c
  | 35 => k0_dev42 c
  | 36 => k0_dev34 c
  | 37 => k0_dev26 c
  | 38 => k0_dev18 c
  | 39 => k0_dev43 c
  | 40 => k0_dev35 c
  | 41 => k0_dev27 c
  | 42 => k0_dev19 c
  | 43 => k0_dev44 c
  | 44 => k0_dev36 c
  | 45 => k0_dev28 c
  | 46 => k0_dev21 c
  | 47 => k0_dev51 c
  | 48 => k0_dev49 c
  | 49 => k0_dev47 c
  | 50 => k0_dev45 c
  | 51 => k0_dev69 c
  | 52 => k0_dev67 c
  | 53 => k0_dev65 c
  | 54 => k0_dev37 c
  | 55 => k0_dev63 c
  | 56 => k0_dev61 c
  | 57 => k0_dev59 c
  | 58 => k0_dev29 c
  | 59 => k0_dev57 c
  | 60 => k0_dev55 c
  | _ => k0_dev53 c

/-- Where in the gathering buffer the transfer with number `i` reads on device `c` (and writes on its target). -/
def sendOff (i : Sid) (c : Dev nD) : Fin 2 → ℕ := match i with
  | 0 => k0_off2 c
  | 1 => k0_off2 c
  | 2 => k0_off2 c
  | 3 => k0_off2 c
  | 4 => k0_off4 c 3#32
  | 5 => k0_off4 c 2#32
  | 6 => k0_off4 c 1#32
  | 7 => k0_off2 c
  | 8 => k0_off4 c 3#32
  | 9 => k0_off4 c 2#32
  | 10 => k0_off4 c 1#32
  | 11 => k0_off2 c
  | 12 => k0_off4 c 3#32
  | 13 => k0_off4 c 2#32
  | 14 => k0_off4 c 1#32
  | 15 => k0_off2 c
  | 16 => k0_off4 c 3#32
  | 17 => k0_off4 c 2#32
  | 18 => k0_off4 c 1#32
  | 19 => k0_off6 c 0#32 3#32
  | 20 => k0_off6 c 1#32 3#32
  | 21 => k0_off6 c 2#32 3#32
  | 22 => k0_off6 c 3#32 3#32
  | 23 => k0_off6 c 0#32 2#32
  | 24 => k0_off6 c 1#32 2#32
  | 25 => k0_off6 c 2#32 2#32
  | 26 => k0_off6 c 3#32 2#32
  | 27 => k0_off6 c 0#32 1#32
  | 28 => k0_off6 c 1#32 1#32
  | 29 => k0_off6 c 2#32 1#32
  | 30 => k0_off6 c 3#32 1#32
  | 31 => k0_off3 c
  | 32 => k0_off3 c
  | 33 => k0_off3 c
  | 34 => k0_off3 c
  | 35 => k0_off5 c 3#32
  | 36 => k0_off5 c 2#32
  | 37 => k0_off5 c 1#32
  | 38 => k0_off3 c
  | 39 => k0_off5 c 3#32
  | 40 => k0_off5 c 2#32
  | 41 => k0_off5 c 1#32
  | 42 => k0_off3 c
  | 43 => k0_off5 c 3#32
  | 44 => k0_off5 c 2#32
  | 45 => k0_off5 c 1#32
  | 46 => k0_off3 c
  | 47 => k0_off7 c 3#32 0#32
  | 48 => k0_off7 c 2#32 0#32
  | 49 => k0_off7 c 1#32 0#32
  | 50 => k0_off5 c 3#32
  | 51 => k0_off7 c 3#32 1#32
  | 52 => k0_off7 c 2#32 1#32
  | 53 => k0_off7 c 1#32 1#32
  | 54 => k0_off5 c 2#32
  | 55 => k0_off7 c 3#32 2#32
  | 56 => k0_off7 c 2#32 2#32
  | 57 => k0_off7 c 1#32 2#32
  | 58 => k0_off5 c 1#32
  | 59 => k0_off7 c 3#32 3#32
  | 60 => k0_off7 c 2#32 3#32
  | _ => k0_off7 c 1#32 3#32

/-- Where in the gathering buffer the chunk that device `c` waits for under number `i` lies. -/
def recvOff (i : Sid) (c : Dev nD) : Fin 2 → ℕ := match i with
  | 0 => k0_off4 c 1#32
  | 1 => k0_off4 c 2#32
  | 2 => k0_off4 c 3#32
  | 3 => k0_off6 c 0#32 1#32
  | 4 => k0_off6 c 1#32 1#32
  | 5 => k0_off6 c 2#32 1#32
  | 6 => k0_off6 c 3#32 1#32
  | 7 => k0_off6 c 0#32 2#32
  | 8 => k0_off6 c 1#32 2#32
  | 9 => k0_off6 c 2#32 2#32
  | 10 => k0_off6 c 3#32 2#32
  | 11 => k0_off6 c 0#32 3#32
  | 12 => k0_off6 c 1#32 3#32
  | 13 => k0_off6 c 2#32 3#32
  | 14 => k0_off6 c 3#32 3#32
  | 15 => k0_off8 c 0#32 0#32
  | 16 => k0_off8 c 1#32 0#32
  | 17 => k0_off8 c 2#32 0#32
  | 18 => k0_off8 c 3#32 0#32
  | 19 => k0_off8 c 0#32 1#32
  | 20 => k0_off8 c 1#32 1#32
  | 21 => k0_off8 c 2#32 1#32
  | 22 => k0_off8 c 3#32 1#32
  | 23 => k0_off8 c 0#32 2#32
  | 24 => k0_off8 c 1#32 2#32
  | 25 => k0_off8 c 2#32 2#32
  | 26 => k0_off8 c 3#32 2#32
  | 27 => k0_off8 c 0#32 3#32
  | 28 => k0_off8 c 1#32 3#32
  | 29 => k0_off8 c 2#32 3#32
  | 30 => k0_off8 c 3#32 3#32
  | 31 => k0_off5 c 1#32
  | 32 => k0_off5 c 2#32
  | 33 => k0_off5 c 3#32
  | 34 => k0_off7 c 1#32 0#32
  | 35 => k0_off7 c 1#32 1#32
  | 36 => k0_off7 c 1#32 2#32
  | 37 => k0_off7 c 1#32 3#32
  | 38 => k0_off7 c 2#32 0#32
  | 39 => k0_off7 c 2#32 1#32
  | 40 => k0_off7 c 2#32 2#32
  | 41 => k0_off7 c 2#32 3#32
  | 42 => k0_off7 c 3#32 0#32
  | 43 => k0_off7 c 3#32 1#32
  | 44 => k0_off7 c 3#32 2#32
  | 45 => k0_off7 c 3#32 3#32
  | 46 => k0_off9 c 0#32 0#32
  | 47 => k0_off9 c 1#32 0#32
  | 48 => k0_off9 c 2#32 0#32
  | 49 => k0_off9 c 3#32 0#32
  | 50 => k0_off9 c 0#32 1#32
  | 51 => k0_off9 c 1#32 1#32
  | 52 => k0_off9 c 2#32 1#32
  | 53 => k0_off9 c 3#32 1#32
  | 54 => k0_off9 c 0#32 2#32
  | 55 => k0_off9 c 1#32 2#32
  | 56 => k0_off9 c 2#32 2#32
  | 57 => k0_off9 c 3#32 2#32
  | 58 => k0_off9 c 0#32 3#32
  | 59 => k0_off9 c 1#32 3#32
  | 60 => k0_off9 c 2#32 3#32
  | _ => k0_off9 c 3#32 3#32

/-! ## The grid -/

/-- Displacements on the 4 × 4 × 2 grid of devices. -/
abbrev Disp : Type := Fin 4 × Fin 4 × Fin 2

/-- The grid coordinates of a device: `z`, `y`, and the parity of its last bit and `y` (which the kernel's moves
    along `z` and `y` leave alone). -/
def coord (c : Dev nD) : Disp :=
  (Fin.ofNat 4 (c.val / 8), Fin.ofNat 4 (c.val % 8 / 2), Fin.ofNat 2 (c.val % 2 + c.val % 8 / 2))
/-- The device at given coordinates. -/
def devAt (g : Disp) : Dev nD :=
  (Fin.ofNat 32 (8 * g.1.val + 2 * g.2.1.val + (g.2.2.val + g.2.1.val) % 2) : Fin 32)

theorem devAt_coord : ∀ c : Dev nD, devAt (coord c) = c := by decide +kernel
theorem coord_devAt : ∀ g : Disp, coord (devAt g) = g := by decide +kernel

/-- Device `c` moved by `g`. -/
def sh (g : Disp) (c : Dev nD) : Dev nD := devAt (coord c + g)

theorem sh_zero (c : Dev nD) : sh 0 c = c := by unfold sh; rw [add_zero, devAt_coord]
theorem sh_sh (g h : Disp) (c : Dev nD) : sh g (sh h c) = sh (h + g) c := by
  unfold sh; rw [coord_devAt, add_assoc]
theorem sh_neg_sh (g : Disp) (c : Dev nD) : sh (-g) (sh g c) = c := by rw [sh_sh, add_neg_cancel, sh_zero]
theorem sh_sh_neg (g : Disp) (c : Dev nD) : sh g (sh (-g) c) = c := by rw [sh_sh, neg_add_cancel, sh_zero]
theorem sh_inj {g h : Disp} {c : Dev nD} (e : sh g c = sh h c) : g = h := by
  have := congrArg coord e
  unfold sh at this
  rw [coord_devAt, coord_devAt] at this
  exact add_left_cancel this
/-- Every device is `c` moved by some displacement. -/
theorem sh_diff (c o : Dev nD) : sh (coord o - coord c) c = o := by
  unfold sh; rw [add_sub_cancel, devAt_coord]

/-- Moving by `g`, as a bijection of the devices. -/
def shEquiv (g : Disp) : Dev nD ≃ Dev nD := ⟨sh g, sh (-g), sh_neg_sh g, sh_sh_neg g⟩

/-! ## The transfers -/

/-- The move of entry signal number `p`: three along `z`, three along `y`, one across the last coordinate. -/
def mvP (p : Pid) : Disp :=
  if p.val < 3 then (Fin.ofNat 4 (p.val + 1), 0, 0) else if p.val < 6 then (0, Fin.ofNat 4 (p.val - 2), 0) else (0, 0, 1)

/-- The entry signal with the opposite move. -/
def opp (p : Pid) : Pid := ![2, 1, 0, 5, 4, 3, 6] p

theorem mvP_opp : ∀ p : Pid, mvP (opp p) = -mvP p := by decide +kernel
theorem opp_opp : ∀ p : Pid, opp (opp p) = p := by decide +kernel
theorem mvP_inj : ∀ p q : Pid, mvP p = mvP q → p = q := by decide +kernel

/-- Which of the seven neighbours transfer number `i` goes to. -/
def via (i : Sid) : Pid :=
  if i.val < 3 then Fin.ofNat 7 i.val else if i.val < 15 then Fin.ofNat 7 (3 + (i.val - 3) / 4) else if i.val < 31 then 6
  else if i.val < 34 then Fin.ofNat 7 (3 + (i.val - 31)) else if i.val < 46 then Fin.ofNat 7 ((i.val - 34) / 4) else 6

/-- The move of transfer number `i`. -/
abbrev mv (i : Sid) : Disp := mvP (via i)

/-- Whose chunk transfer number `i` carries, as a displacement from its sender. -/
def src (i : Sid) : Disp :=
  if i.val < 3 then 0 else if i.val < 15 then (Fin.ofNat 4 ((i.val - 3) % 4), 0, 0)
  else if i.val < 31 then (Fin.ofNat 4 ((i.val - 15) % 4), Fin.ofNat 4 ((i.val - 15) / 4), 0)
  else if i.val < 34 then 0 else if i.val < 46 then (0, Fin.ofNat 4 ((i.val - 34) % 4), 0)
  else (Fin.ofNat 4 ((i.val - 46) % 4), Fin.ofNat 4 ((i.val - 46) / 4), 0)

/-- Which half of the columns transfer number `i` carries. -/
def half (i : Sid) : Fin 2 := if i.val < 31 then 0 else 1

/-- Whose chunk arrives under number `i`, as a displacement from its receiver. -/
def org (i : Sid) : Disp := src i - mv i

/-- The number under which the chunk that transfer number `i` carries arrived at its sender; `none` for the sender's
    own chunk. -/
def pre (i : Sid) : Option Sid :=
  if src i = 0 then none
  else if (src i).2.1 = 0 ∧ half i = 0 then some (Fin.ofNat 62 (3 - (src i).1.val))
  else if half i = 0 then some (Fin.ofNat 62 (3 + 4 * (3 - (src i).2.1.val) + (src i).1.val))
  else if (src i).1 = 0 then some (Fin.ofNat 62 (31 + (3 - (src i).2.1.val)))
  else some (Fin.ofNat 62 (34 + 4 * (3 - (src i).1.val) + (src i).2.1.val))

/-- The stage of a transfer: 2 for the first axis, 3 for the second, 4 for the third (1 is the entry signals'). -/
def stage (i : Sid) : ℕ :=
  if i.val < 3 then 2 else if i.val < 15 then 3 else if i.val < 31 then 4 else if i.val < 34 then 2
  else if i.val < 46 then 3 else 4

theorem stage_pos (i : Sid) : 1 < stage i := by unfold stage; split_ifs <;> decide

theorem src_of_pre_none : ∀ i : Sid, pre i = none → src i = 0 := by decide +kernel
theorem src_of_pre_some : ∀ i j : Sid, pre i = some j → src i = org j ∧ half i = half j := by decide +kernel

/-- The number under which the chunk at displacement `g` and column half `h` arrives; nothing at the own chunk. -/
def sidOf (g : Disp) (h : Fin 2) : Option Sid := (List.finRange 62).find? fun i => org i = g ∧ half i = h

theorem sidOf_org : ∀ i : Sid, sidOf (org i) (half i) = some i := by decide +kernel
theorem org_sidOf : ∀ (g : Disp) (h : Fin 2), g ≠ 0 → ∃ i : Sid, org i = g ∧ half i = h := by decide +kernel
theorem org_ne_zero : ∀ i : Sid, org i ≠ 0 := by decide +kernel

theorem org_inj {i j : Sid} (h : org i = org j) (h' : half i = half j) : i = j := by
  have := sidOf_org i
  rw [h, h', sidOf_org j] at this
  exact (Option.some.inj this).symm

/-! ## The printed numbers are the translations -/

theorem peerDevN_eq : ∀ (p : Pid) (c : Dev nD), peerDevN p c = (sh (mvP p) c).val := by decide +kernel
theorem sendDevN_eq : ∀ (i : Sid) (c : Dev nD), sendDevN i c = (sh (mv i) c).val := by decide +kernel

/-- The corner of the chunk of device `o` at column half `h` in the gathering buffer. -/
def corner (o : Dev nD) (h : Fin 2) : Fin 2 → ℕ := ![32 * o.val, 512 * h.val]

theorem sendOff_eq : ∀ (i : Sid) (c : Dev nD), sendOff i c = corner (sh (src i) c) (half i) := by decide +kernel
theorem recvOff_eq : ∀ (i : Sid) (c : Dev nD), recvOff i c = corner (sh (org i) c) (half i) := by decide +kernel

end Cert.GatherProof

end
-- ==== Proof.Program.lean ====
/-
# The kernel body as a list of transfers

The printed body computes every device number and every offset from its device's number. This module states the same
body over the tables of `Tables.lean`: seven entry signals, the wait for seven, the own rows into the gathering buffer, a
LIST of sends and receive-waits, the product with its activation, and the list of send-waits. That the printed body is
this program is definitional (`body_eq`).
-/
module

public import proofs.«01_k».proof.Proof.Gen.KernelIdeal.Skeleton
public import proofs.«01_k».proof.Proof.Tables
public import Idealize.ShloMosaic.Lib.Pipeline.Regions

@[expose] public section

noncomputable section

namespace Cert.GatherProof

open Cert.KernelIdeal Cert.KernelIdeal.Gen
open Idealize.ShloMosaic Idealize.SL.Sem

variable {F : FTy → Type} [FloatOps F]

/-- The staged rows of `x`, the staged columns of `w`, the staged result, and the gathering buffer. -/
abbrev xM : Memref sig .tc .vmem S32x1024 .bf16 := Memref.whole cc0_stg0_0
abbrev wM : Memref sig .tc .vmem S1024x32 .bf16 := Memref.whole cc0_stg1_0
abbrev oM : Memref sig .tc .vmem S1024x32 .f32 := Memref.whole cc0_stg2_0
abbrev gM : Memref sig .tc .vmem S1024x1024 .bf16 := Memref.whole cc0_scratch0

theorem corner_inb : ∀ (o : Dev nD) (h : Fin 2) (a : Fin 2), corner o h a + S32x512.size a ≤ S1024x1024.size a := by
  decide +kernel

/-- The chunk of device `o` at column half `h`, as a rectangle of the gathering buffer. -/
abbrev chunkR (o : Dev nD) (h : Fin 2) : Rect S1024x1024 := Rect.unit (s := S1024x1024) (corner o h) S32x512.size (corner_inb o h)
theorem chunkR_words : ∀ (o : Dev nD) (h : Fin 2), (chunkR o h).WholeWords (EltTy.packing .bf16) := by decide +kernel
/-- The same chunk as a memref. -/
abbrev chunkM (o : Dev nD) (h : Fin 2) : Memref sig .tc .vmem S32x512 .bf16 := gM.slice (chunkR o h) (fun _ => rfl)

theorem sendOff_inb (i : Sid) (c : Dev nD) (a : Fin 2) : sendOff i c a + S32x512.size a ≤ S1024x1024.size a := by
  rw [sendOff_eq]; exact corner_inb _ _ a
theorem recvOff_inb (i : Sid) (c : Dev nD) (a : Fin 2) : recvOff i c a + S32x512.size a ≤ S1024x1024.size a := by
  rw [recvOff_eq]; exact corner_inb _ _ a
theorem off_words {f : Fin 2 → ℕ} {o : Dev nD} {h : Fin 2} (e : f = corner o h) (hf : ∀ a, f a + S32x512.size a ≤ S1024x1024.size a) :
    (Rect.unit (s := S1024x1024) f S32x512.size hf).WholeWords (EltTy.packing .bf16) := by
  subst e; exact chunkR_words o h

theorem peerDevN_lt (p : Pid) (c : Dev nD) : peerDevN p c < nD := by rw [peerDevN_eq]; exact (sh _ c).isLt
theorem sendDevN_lt (i : Sid) (c : Dev nD) : sendDevN i c < nD := by rw [sendDevN_eq]; exact (sh _ c).isLt
theorem sid_inb : ∀ (i : Sid) (a : Fin 1), (![i.val] : Fin 1 → ℕ) a + S1.size a ≤ S62.size a := by decide +kernel

/-- The semaphores of transfer number `i`. -/
abbrev sendSem (i : Sid) : DmaSems sig S_ := (cc0_scratch1.slice (Rect.unit (s := S62) ![i.val] S1.size (sid_inb i))).squeeze S_ squeezes_S1_S_
abbrev recvSem (i : Sid) : DmaSems sig S_ := (cc0_scratch2.slice (Rect.unit (s := S62) ![i.val] S1.size (sid_inb i))).squeeze S_ squeezes_S1_S_
/-- The entry barrier's semaphore. -/
abbrev barS : Sem sig := sig.barrier 0 rfl

/-- Programs of the kernel's thread. -/
abbrev KProg (F : FTy → Type) [FloatOps F] : Type 1 := Prog (TpuEff nD τ sig (Elt F) Λ₀ .tc) PUnit

/-- The window of the gathering buffer at a chunk's corner given as a computed offset. -/
abbrev winM (f : Fin 2 → ℕ) (hf : ∀ a, f a + S32x512.size a ≤ S1024x1024.size a) : Memref sig .tc .vmem S32x512 .bf16 :=
  gM.slice (Rect.unit (s := S1024x1024) f S32x512.size hf) (fun _ => rfl)

/-- One operation of the communication: start transfer `i`, wait until the chunk numbered `i` has arrived, wait until
    transfer `i` has read its source. -/
inductive Op : Type
  | send (i : Sid)
  | recv (i : Sid)
  | done (i : Sid)
  deriving DecidableEq

/-- The operation as a program of device `c`. -/
def opProg (c : Dev nD) : Op → KProg F
  | .send i => Prog.lift (.enqueueDma (winM (sendOff i c) (sendOff_inb i c))
      (.remote (Dev.tc (⟨sendDevN i c, sendDevN_lt i c⟩ : Dev nD)) (winM (sendOff i c) (sendOff_inb i c)) (.dma (sendSem i).sem)) (.dma (recvSem i).sem)
      ((Memref.isWhole_whole _).wordExact_slice rfl _ (off_words (sendOff_eq i c) _))
      ((Memref.isWhole_whole _).wordExact_slice rfl _ (off_words (sendOff_eq i c) _)) ⟨⟨rfl, Or.inl rfl⟩, trivial⟩)
  | .recv i => Prog.lift (.waitDma2 (recvSem i).sem (winM (recvOff i c) (recvOff_inb i c)) (winM (recvOff i c) (recvOff_inb i c))
      ((Memref.isWhole_whole _).wordExact_slice rfl _ (off_words (recvOff_eq i c) _))
      ((Memref.isWhole_whole _).wordExact_slice rfl _ (off_words (recvOff_eq i c) _)))
  | .done i => Prog.lift (.waitDma2 (sendSem i).sem (winM (sendOff i c) (sendOff_inb i c)) (winM (sendOff i c) (sendOff_inb i c))
      ((Memref.isWhole_whole _).wordExact_slice rfl _ (off_words (sendOff_eq i c) _))
      ((Memref.isWhole_whole _).wordExact_slice rfl _ (off_words (sendOff_eq i c) _)))

/-- A list of operations, then `k`. -/
def run (c : Dev nD) : List Op → KProg F → KProg F
  | [], k => k
  | o :: os, k => opProg c o >>= fun _ => run c os k

/-- The entry signals numbered by a list, then `k`. -/
def signals (c : Dev nD) : List Pid → KProg F → KProg F
  | [], k => k
  | p :: ps, k => semSignalWord (⟨peerDevN p c, peerDevN_lt p c⟩ : Dev nD) barS 1#32 >>= fun _ => signals c ps k

/-- The own rows are copied into the gathering buffer, then `k`. -/
def copyIn (c : Dev nD) (k : KProg F) : KProg F :=
  Prog.lift (.load xM (Rect.unit (s := S32x1024) ![0, 0] S32x1024.size inb_S32x1024_S32x1024_0_0).toLoadRect (View.loadsAt_vmem h_S32x1024)) >>= fun v =>
  Prog.lift (.load gM (Rect.unit (s := S1024x1024) (k0_off1 c) S32x1024.size (k0_off1_inb c)).toLoadRect (View.loadsAt_vmem h_S32x1024)) >>= fun _ =>
  Prog.lift (.store gM (Rect.unit (s := S1024x1024) (k0_off1 c) S32x1024.size (k0_off1_inb c)) (k0_pay1 v) Finset.univ
    (View.stores_vmem h_S32x1024 ((Memref.isWhole_whole _).storeExact_slice rfl _ (k0_off1_packedbf16 c)) (fun _ => rfl)) (.inl rfl)) >>= fun _ => k

/-- The product of the gathered rows with the device's columns and the activation, then `k`. -/
def product (k : KProg F) : KProg F :=
  Prog.lift (.load gM (Rect.unit (s := S1024x1024) ![0, 0] S1024x1024.size inb_S1024x1024_S1024x1024_0_0).toLoadRect (View.loadsAt_vmem h_S1024x1024)) >>= fun v =>
  Prog.lift (.load wM (Rect.unit (s := S1024x32) ![0, 0] S1024x32.size inb_S1024x32_S1024x32_0_0).toLoadRect (View.loadsAt_vmem h_S1024x32)) >>= fun u =>
  Prog.lift (.load oM (Rect.unit (s := S1024x32) ![0, 0] S1024x32.size inb_S1024x32_S1024x32_0_0).toLoadRect (View.loadsAt_vmem h_S1024x32)) >>= fun _ =>
  Prog.lift (.store oM (Rect.unit (s := S1024x32) ![0, 0] S1024x32.size inb_S1024x32_S1024x32_0_0) (k0_pay2 v u) Finset.univ
    (View.stores_vmem_bits_univ h_S1024x32 rfl) (.inl rfl)) >>= fun _ => k

/-- The sends and receive-waits, in program order. -/
def gatherOps : List Op :=
  [.send 0, .send 1, .send 2, .send 31, .send 32, .send 33, .send 3, .send 7, .send 11, .send 34, .send 38,
   .send 42, .send 15, .send 46, .recv 0, .send 6, .send 10, .send 14, .send 18, .recv 31, .send 37, .send 41,
   .send 45, .send 58, .recv 1, .send 5, .send 9, .send 13, .send 17, .recv 32, .send 36, .send 40, .send 44,
   .send 54, .recv 2, .send 4, .send 8, .send 12, .send 16, .recv 33, .send 35, .send 39, .send 43, .send 50,
   .recv 3, .send 27, .recv 34, .send 49, .recv 7, .send 23, .recv 38, .send 48, .recv 11, .send 19, .recv 42,
   .send 47, .recv 6, .send 30, .recv 37, .send 61, .recv 10, .send 26, .recv 41, .send 60, .recv 14, .send 22,
   .recv 45, .send 59, .recv 5, .send 29, .recv 36, .send 57, .recv 9, .send 25, .recv 40, .send 56, .recv 13,
   .send 21, .recv 44, .send 55, .recv 4, .send 28, .recv 35, .send 53, .recv 8, .send 24, .recv 39, .send 52,
   .recv 12, .send 20, .recv 43, .send 51, .recv 15, .recv 46, .recv 18, .recv 58, .recv 17, .recv 54, .recv 16,
   .recv 50, .recv 27, .recv 49, .recv 23, .recv 48, .recv 19, .recv 47, .recv 30, .recv 61, .recv 26, .recv 60,
   .recv 22, .recv 59, .recv 29, .recv 57, .recv 25, .recv 56, .recv 21, .recv 55, .recv 28, .recv 53, .recv 24,
   .recv 52, .recv 20, .recv 51]

/-- The numbers of the send-waits, in program order. -/
def doneSids : List Sid :=
  [0, 1, 2, 31, 32, 33, 3, 7, 11, 34, 38, 42, 15, 46, 6, 10, 14, 18, 37, 41, 45, 58, 5, 9, 13, 17, 36, 40, 44,
   54, 4, 8, 12, 16, 35, 39, 43, 50, 27, 49, 23, 48, 19, 47, 30, 61, 26, 60, 22, 59, 29, 57, 25, 56, 21, 55, 28,
   53, 24, 52, 20, 51]

/-- The whole body. -/
def body : KProg F :=
  Prog.lift .deviceId >>= fun c =>
  signals c [0, 1, 2, 3, 4, 5, 6] (semWaitWord barS 7#32 >>= fun _ =>
    copyIn c (run c gatherOps (product (run c (doneSids.map .done) (pure ⟨⟩)))))

theorem body_eq : cc0_body (F := F) xM (Memref.isWhole_whole _) wM (Memref.isWhole_whole _) oM (Memref.isWhole_whole _) gM
    (Memref.isWhole_whole _) cc0_scratch1 cc0_scratch2 = body := by
  chain_rfl

end Cert.GatherProof

end
-- ==== Proof.Chunks.lean ====
/-
# The gathering buffer, chunk by chunk

Each device's gathering buffer is 64 chunks of 32 rows by 512 columns: two of its own rows, and one for every transfer
number that arrives. This module names a device's chunks by `Key`, cuts the buffer into them, and cuts a chunk into a
base share and one read share for every transfer the device starts out of it.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type} [FloatOps F]

/-! ## The resource algebra: the pipeline library's copy, and the gather's with duties numbered by the entry signals -/

abbrev UB : Type := URounds (GSem nD τ sig) Pid
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Element sets -/

/-- A device's gathering buffer. -/
abbrev gLoc (c : Dev nD) : Loc nD τ sig := (c : Thread nD τ).loc cc0_scratch0
/-- What a gathering buffer holds. -/
abbrev GBuf (F : FTy → Type) [FloatOps F] : Type := (cc0_scratch0 : Ref sig .tc).ty.Contents (Elt F)

/-- The elements of the chunk of device `o` at column half `h`. -/
def chunkSet (o : Dev nD) (h : Fin 2) : Finset S1024x1024.Idx := (chunkR o h).set

omit [FloatOps F] in
theorem mem_chunkSet {o : Dev nD} {h : Fin 2} {x : S1024x1024.Idx} :
    x ∈ chunkSet o h ↔ (x 0).val / 32 = o.val ∧ (x 1).val / 512 = h.val := by
  unfold chunkSet
  rw [Rect.mem_set_unit, Fin.forall_fin_two]
  show (32 * o.val ≤ (x 0).val ∧ (x 0).val < 32 * o.val + 32) ∧ (512 * h.val ≤ (x 1).val ∧ (x 1).val < 512 * h.val + 512) ↔ _
  omega

theorem chunkM_set (o : Dev nD) (h : Fin 2) : (chunkM o h).view.set = chunkSet o h := View.set_slice_whole _ _

/-- The chunks of a device: its own two halves, and one per transfer number. -/
abbrev Key : Type := Fin 2 ⊕ Sid

/-- Whose rows the chunk holds, as a displacement, and which half of the columns. -/
def keyOrg : Key → Disp | .inl _ => 0 | .inr i => org i
def keyHalf : Key → Fin 2 | .inl h => h | .inr i => half i

/-- The elements of device `c`'s chunk `k`. -/
def keySet (c : Dev nD) (k : Key) : Finset S1024x1024.Idx := chunkSet (sh (keyOrg k) c) (keyHalf k)

theorem key_inj {k k' : Key} (h : keyOrg k = keyOrg k') (h' : keyHalf k = keyHalf k') : k = k' := by
  rcases k with a | i <;> rcases k' with b | j
  · exact congrArg _ h'
  · exact absurd h.symm (org_ne_zero j)
  · exact absurd h (org_ne_zero i)
  · exact congrArg _ (org_inj h h')

theorem key_surj (g : Disp) (h : Fin 2) : ∃ k : Key, keyOrg k = g ∧ keyHalf k = h := by
  by_cases hg : g = 0
  · exact ⟨.inl h, hg.symm, rfl⟩
  · obtain ⟨i, h1, h2⟩ := org_sidOf g h hg
    exact ⟨.inr i, h1, h2⟩

theorem keySet_disjoint (c : Dev nD) : ∀ k k' : Key, k ≠ k' → Disjoint (keySet c k) (keySet c k') := by
  intro k k' hne
  rw [Finset.disjoint_left]
  intro x h1 h2
  have h1 := mem_chunkSet.mp h1
  have h2 := mem_chunkSet.mp h2
  exact hne (key_inj (sh_inj (c := c) (Fin.ext (h1.1.symm.trans h2.1))) (Fin.ext (h1.2.symm.trans h2.2)))

theorem keySet_cover (c : Dev nD) : (Finset.univ.biUnion (keySet c)) = Finset.univ := by
  refine Finset.eq_univ_iff_forall.mpr fun x => ?_
  have h0 : (x 0).val < 1024 := (x 0).isLt
  have h1 : (x 1).val < 1024 := (x 1).isLt
  let o : Dev nD := (⟨(x 0).val / 32, by omega⟩ : Fin 32)
  obtain ⟨k, hk, hh⟩ := key_surj (coord o - coord c) ⟨(x 1).val / 512, by omega⟩
  refine Finset.mem_biUnion.mpr ⟨k, Finset.mem_univ _, mem_chunkSet.mpr ⟨?_, ?_⟩⟩
  · rw [hk, sh_diff]
  · rw [hh]

/-! ## Which chunk a transfer is started out of -/

/-- The chunk of the sender that transfer `i` carries. -/
def fromKey (i : Sid) : Key := match pre i with | none => .inl (half i) | some j => .inr j

theorem keyOrg_from (i : Sid) : keyOrg (fromKey i) = src i := by
  unfold fromKey
  cases h : pre i with
  | none => exact (src_of_pre_none i h).symm
  | some j => exact (src_of_pre_some i j h).1.symm
theorem keyHalf_from (i : Sid) : keyHalf (fromKey i) = half i := by
  unfold fromKey
  cases h : pre i with
  | none => rfl
  | some j => exact (src_of_pre_some i j h).2.symm

theorem keySet_from (c : Dev nD) (i : Sid) : keySet c (fromKey i) = chunkSet (sh (src i) c) (half i) := by
  unfold keySet; rw [keyOrg_from, keyHalf_from]

/-- The transfers started out of chunk `k`. -/
def outs (k : Key) : Finset Sid := Finset.univ.filter fun i => fromKey i = k

/-- Who reads a chunk on the right half of its share: those transfers, and one reader more, the last. -/
def readers (k : Key) : Finset (Fin 63) := insert (Fin.last 62) ((outs k).map Fin.castSuccEmb)

/-- The share transfer `i` takes of its chunk. -/
def tokShare (i : Sid) : PosShare TreeShare := dealOf fullShare.right (readers (fromKey i)) i.castSucc
/-- What is left of the right half of chunk `k`'s share. -/
def restShare (k : Key) : PosShare TreeShare := dealOf fullShare.right (readers k) (Fin.last 62)

/-- The elements of device `c`'s chunk `k`, held at share `q` and contents `f`. -/
def chunkPts (c : Dev nD) (k : Key) (q : PosShare TreeShare) (f : GBuf F) : sProp 𝕄 := gLoc c ↦[keySet c k]{q} f

/-- What the device keeps of a chunk while its transfers read it: the left half, and the rest of the right one. -/
def base (g : GBuf F) (c : Dev nD) (k : Key) : sProp 𝕄 :=
  iprop(chunkPts c k fullShare.left g ∗ chunkPts c k (restShare k) g)
/-- The read share of transfer `i`. -/
def tok (g : GBuf F) (c : Dev nD) (i : Sid) : sProp 𝕄 := chunkPts c (fromKey i) (tokShare i) g

instance chunkPts_storable (c : Dev nD) (k : Key) (q : PosShare TreeShare) (f : GBuf F) :
    BI.Storable (upEmb : UEmb _ 𝕄) (chunkPts (F := F) c k q f) := by unfold chunkPts; infer_instance
instance tok_storable (g : GBuf F) (c : Dev nD) (i : Sid) :
    BI.Storable (upEmb : UEmb _ 𝕄) (tok (F := F) g c i) := by unfold tok; infer_instance

/-- A chunk held in full is its base and the read shares of its transfers. -/
theorem chunk_deal (g : GBuf F) (c : Dev nD) (k : Key) :
    (chunkPts c k fullShare g : sProp 𝕄) = iprop(base g c k ∗ bigSep (outs k) (tok g c)) := by
  have e1 : (chunkPts c k fullShare g : sProp 𝕄) = iprop(chunkPts c k fullShare.left g ∗ chunkPts c k fullShare.right g) := by
    have := pointsTo_share (Ix := Unit) (Name := ℕ) (U := UU) (Lvl := ℕ) (ℓ := gLoc c) (I := keySet c k) (f := g) (PosShare.mem_left_op_right fullShare)
    exact BI.Entails.antisymm this.1 this.2
  have e2 : (chunkPts c k fullShare.right g : sProp 𝕄) = iprop(chunkPts c k (restShare k) g ∗ bigSep (outs k) (tok g c)) := by
    unfold chunkPts
    rw [pointsTo_deal (readers k) ⟨_, Finset.mem_insert_self _ _⟩ fullShare.right, readers, bigSep_insert, bigSep_map]
    · refine congrArg (BI.sep _) ?_
      refine bigSep_congr fun i hi => ?_
      have hk : fromKey i = k := (Finset.mem_filter.mp hi).2
      unfold tok chunkPts tokShare
      rw [hk]; rfl
    · intro hm
      obtain ⟨i, _, e⟩ := Finset.mem_map.mp hm
      exact absurd e (Fin.castSucc_lt_last i).ne
  rw [e1, e2]; unfold base
  have h₁ : iprop(chunkPts c k fullShare.left g ∗ chunkPts c k (restShare k) g ∗ bigSep (outs k) (tok g c))
      ⊢ (iprop((chunkPts c k fullShare.left g ∗ chunkPts c k (restShare k) g) ∗ bigSep (outs k) (tok g c)) : sProp 𝕄) := by
    iintro ⟨H1, H2, H3⟩
    isplitl [H1 H2]
    · isplitl [H1] <;> iassumption
    iexact H3
  have h₂ : iprop((chunkPts c k fullShare.left g ∗ chunkPts c k (restShare k) g) ∗ bigSep (outs k) (tok g c))
      ⊢ (iprop(chunkPts c k fullShare.left g ∗ chunkPts c k (restShare k) g ∗ bigSep (outs k) (tok g c)) : sProp 𝕄) := by
    iintro ⟨⟨H1, H2⟩, H3⟩
    isplitl [H1]; · iexact H1
    isplitl [H2] <;> iassumption
  exact BI.Entails.antisymm h₁ h₂

/-- A buffer held whole is held chunk by chunk. -/
theorem buffer_chunks (c : Dev nD) (q : PosShare TreeShare) (f : GBuf F) :
    (gLoc c ↦{q} f : sProp 𝕄) = bigSep Finset.univ fun k => chunkPts c k q f :=
  Ring.pointsTo_blocks (ℓ := gLoc c) (keySet c) (keySet_disjoint c) (keySet_cover c) f

/-- All the read shares, gathered by chunk. -/
theorem toks_by_key (g : GBuf F) (c : Dev nD) :
    (bigSep Finset.univ (tok g c) : sProp 𝕄) = bigSep Finset.univ fun k : Key => bigSep (outs k) (tok g c) := by
  have e (k : Key) : (bigSep (outs k) (tok g c) : sProp 𝕄) = bigSep Finset.univ fun i => if fromKey i = k then tok g c i else BI.emp :=
    bigSep_filter Finset.univ (fun i => fromKey i = k) (tok g c)
  rw [bigSep_congr fun k _ => e k, bigSep_univ_comm]
  refine bigSep_congr fun i _ => ?_
  have h := bigSep_filter (M := 𝕄) Finset.univ (fun k => fromKey i = k) (fun _ => tok g c i)
  rw [Finset.filter_eq, if_pos (Finset.mem_univ _), bigSep_singleton] at h
  exact h

end Cert.GatherProof

end
-- ==== Proof.Sched.lean ====
/-
# The protocol of the all-gather

Every semaphore of the gather is used for ONE round. A device's barrier semaphore takes one unit from each of its seven
neighbours, and with each unit the places at that neighbour this device may write. The semaphore a transfer credits at
its receiver brings the chunk with its final contents; the one it credits at its sender brings the read share of the
source back. Waiting is ordered by levels: the barrier first, then the transfers by the stage of the gather.
-/
module

public import proofs.«01_k».proof.Proof.Chunks

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The gather's semaphores on one device: the barrier, and a send and a receive semaphore per transfer. -/
abbrev CK : Type := Unit ⊕ (Sid ⊕ Sid)

def csem : CK → SemLoc sig
  | .inl _ => .reg barS
  | .inr (.inl i) => .dma (sendSem i).sem
  | .inr (.inr i) => .dma (recvSem i).sem

abbrev kcell (ck : Dev nD × CK) : GSem nD τ sig := ((ck.1 : Thread nD τ), csem ck.2)
abbrev barCell (c : Dev nD) : GSem nD τ sig := kcell (c, .inl ())
abbrev sendCell (c : Dev nD) (i : Sid) : GSem nD τ sig := kcell (c, .inr (.inl i))
abbrev recvCell (c : Dev nD) (i : Sid) : GSem nD τ sig := kcell (c, .inr (.inr i))

/-- Which of the gather's semaphores a semaphore is. -/
def kindOf : SemLoc sig → Option CK
  | .reg s => if s = barS then some (.inl ()) else none
  | .dma q =>
    if q.val < 3 then none
    else if h : q.val - 3 < 62 then some (.inr (.inl ⟨q.val - 3, h⟩))
    else if h' : q.val - 65 < 62 then some (.inr (.inr ⟨q.val - 65, h'⟩)) else none

theorem kindOf_csem : ∀ k : CK, kindOf (csem k) = some k := by
  rintro (_ | i | i)
  · rfl
  · revert i; decide +kernel
  · revert i; decide +kernel

theorem csem_inj {k k' : CK} (h : csem k = csem k') : k = k' := by
  have := congrArg kindOf h
  rw [kindOf_csem, kindOf_csem] at this
  exact Option.some.inj this

theorem kcell_inj {a b : Dev nD × CK} (h : kcell a = kcell b) : a = b := by
  have h1 : a.1 = b.1 := congrArg (fun g : GSem nD τ sig => g.1.1) h
  have h2 : csem a.2 = csem b.2 := congrArg Prod.snd h
  exact Prod.ext h1 (csem_inj h2)

/-- What one transfer credits. -/
abbrev N : ℕ := (chunkM (0 : Fin 32) 0).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The rows of `x` and the columns of `w` device `c` is given, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The device whose rows hold row `r`. -/
def rowDev (r : Fin 1024) : Dev nD := (⟨r.val / 32, by omega⟩ : Fin 32)
/-- Index `x` of the gathered matrix, within the rows of its device. -/
def rowIdx (x : S1024x1024.Idx) : S32x1024.Idx :=
  Fin.cons (α := fun a => Fin (S32x1024.size a)) (⟨(x 0).val % 32, Nat.mod_lt _ (by decide)⟩ : Fin 32)
    (Fin.cons (α := fun a : Fin 1 => Fin (S32x1024.size a.succ)) (x 1) finZeroElim)

/-- The gathered matrix: every device's rows. -/
def xg : GBuf F := fun x => xstg m ρ (rowDev (x 0)) (rowIdx x)

/-- The result on device `c`. -/
def outAt (c : Dev nD) : (cc0_stg2_0 : Ref sig .tc).ty.Contents (Elt F) := k0_pay2 (xg m ρ) (wstg m ρ c)

/-! ## The schedule -/

/-- What the neighbour behind barrier duty `d` of device `c` hands over: the places there for the transfers `c` addresses
    to it, with whatever they hold. -/
def barPay (c : Dev nD) (d : Pid) : sProp 𝕄 :=
  bigSep (Finset.univ.filter fun i => via i = d) fun i => iprop(∃ f, chunkPts (F := F) (sh (mv i) c) (.inr i) fullShare f)
/-- What arrives under number `i`: the chunk, at its final contents. -/
def recvPay (c : Dev nD) (i : Sid) : sProp 𝕄 := chunkPts c (.inr i) fullShare (xg m ρ)
/-- What comes back to the sender of number `i`: the read share of its source. -/
def sendPay (c : Dev nD) (i : Sid) : sProp 𝕄 := tok (xg m ρ) c i

instance barPay_storable (c : Dev nD) (d : Pid) : BI.Storable (upEmb : UEmb _ 𝕄) (barPay (F := F) c d) := by unfold barPay; infer_instance
instance recvPay_storable (c : Dev nD) (i : Sid) : BI.Storable (upEmb : UEmb _ 𝕄) (recvPay (F := F) m ρ c i) := by unfold recvPay; infer_instance
instance sendPay_storable (c : Dev nD) (i : Sid) : BI.Storable (upEmb : UEmb _ 𝕄) (sendPay (F := F) m ρ c i) := by unfold sendPay; infer_instance

/-- The duties of a semaphore in its one round, by its kind: seven at the barrier, one elsewhere. -/
def kDuties : Option CK → Finset Pid
  | none => ∅
  | some (.inl _) => Finset.univ
  | some (.inr _) => {0}
/-- The units a duty is worth. -/
def kAmount : Option CK → ℕ
  | some (.inl _) => 1
  | _ => N
/-- What a duty hands over. -/
def kPayload (c : Dev nD) (d : Pid) : Option CK → sProp 𝕄
  | none => iprop(emp)
  | some (.inl _) => barPay c d
  | some (.inr (.inl i)) => sendPay m ρ c i
  | some (.inr (.inr i)) => recvPay m ρ c i

instance kPayload_storable (c : Dev nD) (d : Pid) (k : Option CK) : BI.Storable (upEmb : UEmb _ 𝕄) (kPayload (F := F) m ρ c d k) := by
  rcases k with _ | _ | _ | _ <;> unfold kPayload <;> infer_instance

def Rd : Rounds.Schedule (GSem nD τ sig) Pid 𝕄 where
  duties g r := if r = 0 ∧ g.1.2 = .tc then kDuties (kindOf g.2) else ∅
  unitless _ := False
  amount g _ _ := kAmount (kindOf g.2)
  payload g _ d := kPayload m ρ g.1.1 d (kindOf g.2)
  amount_pos g _ _ _ := by
    unfold kAmount
    split
    · exact Nat.one_pos
    · exact N_pos

instance Rd_storable (g : GSem nD τ sig) (r : ℕ) (d : Pid) : BI.Storable (upEmb : UEmb _ 𝕄) ((Rd (F := F) m ρ).payload g r d) := by
  show BI.Storable upEmb (kPayload m ρ g.1.1 d (kindOf g.2))
  infer_instance

theorem duties_at (c : Dev nD) (k : CK) : (Rd (F := F) m ρ).duties (kcell (c, k)) 0 = kDuties (some k) := by
  dsimp only [Rd]; rw [if_pos ⟨rfl, rfl⟩, kindOf_csem]
theorem duties_later (g : GSem nD τ sig) : ∀ r, 1 ≤ r → (Rd (F := F) m ρ).duties g r = ∅ :=
  fun r hr => by dsimp only [Rd]; rw [if_neg fun h => by omega]
theorem amount_at (c : Dev nD) (k : CK) (d : Pid) : (Rd (F := F) m ρ).amount (kcell (c, k)) 0 d = kAmount (some k) := by
  dsimp only [Rd]; rw [kindOf_csem]
theorem payload_at (c : Dev nD) (k : CK) (d : Pid) : (Rd (F := F) m ρ).payload (kcell (c, k)) 0 d = kPayload m ρ c d (some k) := by
  dsimp only [Rd]; rw [kindOf_csem]

theorem expect_bar (c : Dev nD) : (Rd (F := F) m ρ).expect (barCell c) 0 = 7 := by
  unfold Schedule.expect Schedule.amountOf
  rw [duties_at, Finset.sum_congr rfl fun d _ => amount_at m ρ c _ d]; rfl
theorem expect_xfer (c : Dev nD) (k : Sid ⊕ Sid) : (Rd (F := F) m ρ).expect (kcell (c, .inr k)) 0 = N := by
  unfold Schedule.expect Schedule.amountOf
  rw [duties_at]; unfold kDuties; rw [Finset.sum_singleton, amount_at]; rfl

theorem rest_bar (c : Dev nD) :
    bigSep ((Rd (F := F) m ρ).duties (barCell c) 0 \ ∅) (fun d => (Rd (F := F) m ρ).payload (barCell c) 0 d) = bigSep Finset.univ fun d => barPay c d := by
  rw [Finset.sdiff_empty, duties_at, bigSep_congr fun d _ => payload_at m ρ c _ d]; rfl
theorem rest_xfer (c : Dev nD) (k : Sid ⊕ Sid) :
    bigSep ((Rd (F := F) m ρ).duties (kcell (c, .inr k)) 0 \ ∅) (fun d => (Rd (F := F) m ρ).payload (kcell (c, .inr k)) 0 d)
      = kPayload m ρ c 0 (some (.inr k)) := by
  rw [Finset.sdiff_empty, duties_at]; unfold kDuties; rw [bigSep_singleton, payload_at]

/-! ## What a device owes, and the levels -/

/-- The credit of a set of transfers device `c` has yet to start. -/
def owedX (c : Dev nD) (U : Finset Sid) : CellTallies nD τ sig Unit := ∑ i ∈ U, tallyAt (recvCell (sh (mv i) c) i) () N
/-- The units of a set of entry signals it has yet to give. -/
def owedB (c : Dev nD) (P : Finset Pid) : CellTallies nD τ sig Unit := ∑ p ∈ P, tallyAt (barCell (sh (mvP p) c)) () 1
/-- What it owes at launch. -/
def O₀ (c : Dev nD) : CellTallies nD τ sig Unit := owedX c Finset.univ + owedB c Finset.univ

def L (g : GSem nD τ sig) : Finset Unit := if g.1.2 = .tc then {()} else ∅
def kLevel : Option CK → ℕ
  | some (.inl _) => 1
  | some (.inr (.inr i)) => stage i
  | _ => 0
def lv (g : GSem nD τ sig) (_ : Unit) : ℕ := kLevel (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem owedX_pos {c : Dev nD} {U : Finset Sid} {g : GSem nD τ sig} {u : Unit} (h : 0 < owedX c U g u) :
    ∃ i ∈ U, g = recvCell (sh (mv i) c) i := by
  unfold owedX at h
  rw [Finset.sum_apply, Finsupp.finset_sum_apply] at h
  obtain ⟨i, hi, hp⟩ := Finset.exists_ne_zero_of_sum_ne_zero h.ne'
  refine ⟨i, hi, ?_⟩
  rw [tallyAt_apply] at hp
  by_contra hn
  exact hp (if_neg fun h' => hn h'.1)
theorem owedB_pos {c : Dev nD} {P : Finset Pid} {g : GSem nD τ sig} {u : Unit} (h : 0 < owedB c P g u) :
    ∃ p ∈ P, g = barCell (sh (mvP p) c) := by
  unfold owedB at h
  rw [Finset.sum_apply, Finsupp.finset_sum_apply] at h
  obtain ⟨i, hi, hp⟩ := Finset.exists_ne_zero_of_sum_ne_zero h.ne'
  refine ⟨i, hi, ?_⟩
  rw [tallyAt_apply] at hp
  by_contra hn
  exact hp (if_neg fun h' => hn h'.1)

/-- Owing the transfers `U`, a device may wait on any semaphore whose level is below their stages. -/
theorem mayWait_X (c : Dev nD) (sm : SemLoc sig) (U : Finset Sid) (h : ∀ i ∈ U, kLevel (kindOf sm) < stage i) :
    (levAts L lv : sProp 𝕄) ⊢ MayWait (c : Thread nD τ) sm () (owedX c U) :=
  MayOwe.of_cut (L := L) (lev := lv) (kLevel (kindOf sm)) (fun p hp => by rw [Finset.mem_singleton.mp hp, L_tc]; exact Finset.mem_singleton_self _)
    (fun g u hg => by obtain ⟨i, _, rfl⟩ := owedX_pos hg; rw [L_tc]; exact Finset.mem_singleton_self _)
    (fun p hp => by rw [Finset.mem_singleton.mp hp]; rfl)
    (fun g u hg => by obtain ⟨i, hi, rfl⟩ := owedX_pos hg; unfold lv; rw [kindOf_csem]; exact h i hi)

/-- Owing everything, it may wait on any semaphore of level zero. -/
theorem mayWait_O₀ (c : Dev nD) (sm : SemLoc sig) (h : kLevel (kindOf sm) = 0) :
    (levAts L lv : sProp 𝕄) ⊢ MayWait (c : Thread nD τ) sm () (O₀ c) := by
  have key : ∀ (g : GSem nD τ sig) (u : Unit), 0 < O₀ c g u → L g = {()} ∧ 0 < lv g u := fun g u hg => by
    unfold O₀ at hg
    rw [Pi.add_apply, Finsupp.add_apply] at hg
    rcases Nat.eq_zero_or_pos (owedX c Finset.univ g u) with h0 | h0
    · rw [h0, Nat.zero_add] at hg
      obtain ⟨p, _, rfl⟩ := owedB_pos hg
      exact ⟨L_tc _ _, by unfold lv; rw [kindOf_csem]; exact Nat.one_pos⟩
    · obtain ⟨i, _, rfl⟩ := owedX_pos h0
      exact ⟨L_tc _ _, by unfold lv; rw [kindOf_csem]; exact Nat.lt_trans Nat.one_pos (stage_pos i)⟩
  exact MayOwe.of_cut (L := L) (lev := lv) 0 (fun p hp => by rw [Finset.mem_singleton.mp hp, L_tc]; exact Finset.mem_singleton_self _)
    (fun g u hg => by rw [(key g u hg).1]; exact Finset.mem_singleton_self _)
    (fun p hp => by rw [Finset.mem_singleton.mp hp]; exact h.le)
    (fun g u hg => (key g u hg).2)

end Cert.GatherProof

end
-- ==== Proof.Steps.lean ====
/-
# One operation of the gather at a time

The state of a device between two operations is five sets of transfer numbers: those it has yet to start, those yet to
arrive, those whose read share it holds, those started and not waited for, those arrived, and those waited for. Each
operation moves one number between sets; whether a list of operations may run from a state is a computation (`steps`),
and `run_sound` is the one induction over the list.
-/
module

public import proofs.«01_k».proof.Proof.Sched

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Taking members out of an iterated conjunction and putting them in -/

section Big
variable {M : Type*} [URA M] {I : Type} [DecidableEq I] {s t : Finset I} {i : I} {Φ : I → sProp M}
theorem sep_take (h : i ∈ s) : bigSep s Φ = iprop(Φ i ∗ bigSep (s.erase i) Φ) := bigSep_erase h
theorem sep_put (h : i ∉ s) : bigSep (insert i s) Φ = iprop(Φ i ∗ bigSep s Φ) := bigSep_insert h
theorem sep_union (h : Disjoint s t) : bigSep (s ∪ t) Φ = iprop(bigSep s Φ ∗ bigSep t Φ) := bigSep_union h
end Big

/-! ## What every device knows -/

/-- Every cell's invariant, under the names `K`, and that every cell's round is open. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem records_inv (K : Dev nD × CK → ℕ) (ck : Dev nD × CK) :
    records m ρ K ⊢ cellInv ER (Rd m ρ) (K ck) (kcell ck) := by
  unfold records
  iintro ⟨H, -⟩
  iapply (show (bigSep Finset.univ fun ck : Dev nD × CK => (cellInv ER (Rd m ρ) (K ck) (kcell ck) : sProp 𝕄)) ⊢ cellInv ER (Rd m ρ) (K ck) (kcell ck)
    from bigSep_elim (Finset.mem_univ ck))
  iexact H
theorem records_reached (K : Dev nD × CK → ℕ) (ck : Dev nD × CK) :
    records m ρ K ⊢ reached ER (kcell ck) 0 := by
  unfold records
  iintro ⟨-, H⟩
  iapply (show (bigSep Finset.univ fun ck : Dev nD × CK => (reached ER (kcell ck) 0 : sProp 𝕄)) ⊢ reached ER (kcell ck) 0
    from bigSep_elim (Finset.mem_univ ck))
  iexact H

/-! ## The state -/

/-- For a transfer yet to start: the place it writes, the two duties it pays, and the sender's position. -/
def sendRes (c : Dev nD) (i : Sid) : sProp 𝕄 :=
  iprop((∃ f, chunkPts (F := F) (sh (mv i) c) (.inr i) fullShare f)
    ∗ dutyTok ER (sendCell c i) 0 0 ∗ dutyTok ER (recvCell (sh (mv i) c) i) 0 0 ∗ atPos ER (sendCell c i) 0 ∅ 0)
/-- For a transfer yet to arrive: its credit and the receiver's position. -/
def recvRes (c : Dev nD) (i : Sid) : sProp 𝕄 :=
  iprop(cred (tallyAt (recvCell c i) () N) ∗ atPos ER (recvCell c i) 0 ∅ 0)
/-- For one started and not waited for. -/
def flyRes (c : Dev nD) (i : Sid) : sProp 𝕄 :=
  iprop(cred (tallyAt (sendCell c i) () N) ∗ atPos ER (sendCell c i) 0 ∅ 0)
/-- For one arrived: what is kept of the chunk, and the semaphore back at zero. -/
def gotRes (c : Dev nD) (i : Sid) : sProp 𝕄 :=
  iprop(base (xg m ρ) c (.inr i) ∗ semVal (recvCell c i) 0)

/-- The sets. -/
structure Ctl where
  unsent : Finset Sid
  coming : Finset Sid
  held : Finset Sid
  flying : Finset Sid
  got : Finset Sid
  doneS : Finset Sid

/-- Device `c`'s state. -/
def St (c : Dev nD) (s : Ctl) : sProp 𝕄 :=
  iprop((∃ W, owes (c : Thread nD τ) (owedX c s.unsent) W)
    ∗ bigSep s.unsent (sendRes (F := F) c) ∗ bigSep s.coming (recvRes (F := F) c) ∗ bigSep s.held (tok (xg m ρ) c)
    ∗ bigSep s.flying (flyRes (F := F) c) ∗ bigSep s.got (gotRes m ρ c) ∗ bigSep s.doneS (fun i => semVal (sendCell c i) 0))

/-- May the operation run, and the sets after it. -/
def step (s : Ctl) : Op → Option Ctl
  | .send i => if i ∈ s.unsent ∧ i ∈ s.held ∧ i ∉ s.flying then
      some { s with unsent := s.unsent.erase i, held := s.held.erase i, flying := insert i s.flying } else none
  | .recv j => if j ∈ s.coming ∧ j ∉ s.got ∧ (∀ i ∈ s.unsent, stage j < stage i) ∧ Disjoint (outs (.inr j)) s.held then
      some { s with coming := s.coming.erase j, held := outs (.inr j) ∪ s.held, got := insert j s.got } else none
  | .done i => if i ∈ s.flying ∧ s.unsent = ∅ ∧ i ∉ s.held ∧ i ∉ s.doneS then
      some { s with flying := s.flying.erase i, held := insert i s.held, doneS := insert i s.doneS } else none

def steps : List Op → Ctl → Option Ctl
  | [], s => some s
  | o :: os, s => (step s o).bind (steps os)

/-! ## The windows and devices the operations name -/

theorem sendDev_eq (i : Sid) (c : Dev nD) : (⟨sendDevN i c, sendDevN_lt i c⟩ : Dev nD) = sh (mv i) c := Fin.ext (sendDevN_eq i c)

/-- The place transfer `i` is written to, on its receiver, holds the same chunk there under number `i`. -/
theorem keySet_target (c : Dev nD) (i : Sid) : keySet (sh (mv i) c) (.inr i) = chunkSet (sh (src i) c) (half i) := by
  show chunkSet (sh (org i) (sh (mv i) c)) (half i) = _
  rw [sh_sh, org, add_sub_cancel]

/-- Two windows of the gathering buffer at the same corner: what is written through one reading the other is the
    buffer read, on the window. -/
theorem window_copy (o : Dev nD) (h : Fin 2) (fd g : GBuf F) :
    ∀ x ∈ chunkSet o h, (chunkM o h).view.write (Elt F) fd ((chunkM o h).view.read (Elt F) g) Finset.univ x = g x := by
  intro x hx
  rw [View.write_read_eq_piecewise]
  refine Finset.piecewise_eq_of_mem _ _ _ ?_
  rw [← chunkM_set] at hx
  exact hx

/-- A chunk's points-to over the window it is addressed by. -/
theorem chunkPts_window (c o : Dev nD) (k : Key) (h : Fin 2) (e : keySet c k = chunkSet o h) (q : PosShare TreeShare) (f : GBuf F) :
    (chunkPts c k q f : sProp 𝕄) = ((chunkM o h).view.loc (c : Thread nD τ) ↦[(chunkM o h).view.set]{q} f) := by
  unfold chunkPts; rw [chunkM_set, e]

/-- Start a transfer whose window is the chunk of `o` at half `h`. -/
theorem wp_send_chunk (K : Dev nD × CK → ℕ) (c n : Dev nD) (i : Sid) (hn : n = sh (mv i) c)
    (off : Fin 2 → ℕ) (hoff : ∀ a, off a + S32x512.size a ≤ S1024x1024.size a) (e : off = corner (sh (src i) c) (half i))
    {hsc : (winM off hoff).view.ref.isScScratch = false} {hsrc : (winM off hoff).view.WordExact} {hdst : (winM off hoff).view.WordExact}
    {hsem : DmaTarget.Typed .vmem (.dma (recvSem i).sem) (.remote (Dev.tc n : Thread nD τ) (winM off hoff) (.dma (sendSem i).sem) hsc)}
    {α : Type} {Q : α → sProp 𝕄} {k : PUnit → Prog (TpuEff nD τ sig (Elt F) Λ₀ .tc) α}
    (fd : GBuf F) (O : CellTallies nD τ sig Unit) (W : Waits sig Unit) :
    iprop(records m ρ K ∗ tok (xg m ρ) c i ∗ chunkPts (sh (mv i) c) (.inr i) fullShare fd
        ∗ owes (c : Thread nD τ) (O + tallyAt (recvCell (sh (mv i) c) i) () N) W
        ∗ dutyTok ER (sendCell c i) 0 0 ∗ dutyTok ER (recvCell (sh (mv i) c) i) 0 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (winM off hoff) (.remote (Dev.tc n : Thread nD τ) (winM off hoff) (.dma (sendSem i).sem) hsc) (.dma (recvSem i).sem) hsrc hdst hsem) k) Q) := by
  subst hn; subst e
  have hfrom := keySet_from c i
  have htgt := keySet_target c i
  iintro ⟨#HR, Ht, Hd, HO, Hts, Htr⟩
  ihave Ht' := (Entails.of_eq (show (tok (xg m ρ) c i : sProp 𝕄) = _ from chunkPts_window c _ _ _ hfrom _ _)) $$ Ht
  ihave Hd' := (Entails.of_eq (chunkPts_window (F := F) (sh (mv i) c) _ _ _ htgt _ fd)) $$ Hd
  have hd₁ : (0 : Pid) ∈ (Rd m ρ).duties ((c : Thread nD τ), SemLoc.dma (sendSem i).sem) 0 := by
    have h := duties_at m ρ c (.inr (.inl i))
    exact h ▸ Finset.mem_singleton_self _
  have hd₂ : (0 : Pid) ∈ (Rd m ρ).duties ((sh (mv i) c : Thread nD τ), SemLoc.dma (recvSem i).sem) 0 := by
    have h := duties_at m ρ (sh (mv i) c) (.inr (.inr i))
    exact h ▸ Finset.mem_singleton_self _
  have hk₁ : (Rd m ρ).amount ((c : Thread nD τ), SemLoc.dma (sendSem i).sem) 0 0 = N := amount_at m ρ c (.inr (.inl i)) 0
  have hk₂ : (Rd m ρ).amount ((sh (mv i) c : Thread nD τ), SemLoc.dma (recvSem i).sem) 0 0 = N := amount_at m ρ (sh (mv i) c) (.inr (.inr i)) 0
  have hp₁ : ((chunkM (sh (src i) c) (half i)).view.loc (c : Thread nD τ) ↦[(chunkM (sh (src i) c) (half i)).view.set]{tokShare i} xg m ρ : sProp 𝕄)
      ⊢ (Rd m ρ).payload ((c : Thread nD τ), SemLoc.dma (sendSem i).sem) 0 0 := by
    refine Entails.of_eq ?_
    exact ((chunkPts_window c _ _ _ hfrom _ _).symm).trans (payload_at m ρ c (.inr (.inl i)) 0).symm
  have hp₂ : ((chunkM (sh (src i) c) (half i)).view.loc (sh (mv i) c : Thread nD τ) ↦[(chunkM (sh (src i) c) (half i)).view.set]{fullShare}
        ((chunkM (sh (src i) c) (half i)).view.write (Elt F) fd ((chunkM (sh (src i) c) (half i)).view.read (Elt F) (xg m ρ)) Finset.univ) : sProp 𝕄)
      ⊢ (Rd m ρ).payload ((sh (mv i) c : Thread nD τ), SemLoc.dma (recvSem i).sem) 0 0 := by
    refine Entails.of_eq ?_
    refine Eq.trans ?_ (payload_at m ρ (sh (mv i) c) (.inr (.inr i)) 0).symm
    show _ = (chunkPts (sh (mv i) c) (.inr i) fullShare (xg m ρ) : sProp 𝕄)
    rw [chunkPts_window (F := F) (sh (mv i) c) _ _ _ htgt]
    refine pointsTo_congr fun x hx => ?_
    exact window_copy _ _ fd (xg m ρ) x (chunkM_set _ _ ▸ hx)
  iapply (Rounds.wp_send_pointsTo 𝒱₀ ER (Rd m ρ) (c : Thread nD τ) none (c' := (sh (mv i) c : Thread nD τ)) (κ₁ := K (c, .inr (.inl i))) (κ₂ := K (sh (mv i) c, .inr (.inr i)))
    (src := chunkM (sh (src i) c) (half i)) (dst := chunkM (sh (src i) c) (half i)) (r₁ := 0) (r₂ := 0) (d₁ := 0) (d₂ := 0) (q := tokShare i) (fs := xg m ρ) (fd := fd)
    hd₁ hd₂ () () N rfl hk₁ hk₂ O rfl (W := W) hp₁ hp₂) $$ [Ht' Hd' HO Hts Htr]
  isplitr; · iapply (records_inv m ρ K (c, .inr (.inl i))); iexact HR
  isplitr; · iapply (records_inv m ρ K (sh (mv i) c, .inr (.inr i))); iexact HR
  isplitl [Ht']; · iexact Ht'
  isplitl [Hd']; · iexact Hd'
  isplitl [HO]; · iexact HO
  isplitl [Hts]; · iexact Hts
  isplitr; · iapply (records_reached m ρ K (c, .inr (.inl i))); iexact HR
  isplitl [Htr]; · iexact Htr
  iapply (records_reached m ρ K (sh (mv i) c, .inr (.inr i))); iexact HR

/-- Wait out the one round of one of a device's transfer semaphores and close it. -/
theorem wp_wait_xfer (K : Dev nD × CK → ℕ) (c : Dev nD) (x : Sid ⊕ Sid) (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem (.inr x)) N Kt)
    {α : Type} {Q : α → sProp 𝕄} {k : PUnit → Prog (TpuEff nD τ sig (Elt F) Λ₀ .tc) α} (O : CellTallies nD τ sig Unit) (W : Waits sig Unit) :
    iprop(records m ρ K ∗ cred (tallyAt (kcell (c, .inr x)) () N) ∗ owes (c : Thread nD τ) O W
        ∗ MayWait (c : Thread nD τ) (csem (.inr x)) () O ∗ atPos ER (kcell (c, .inr x)) 0 ∅ 0)
      ⊢ iprop((((∃ W, owes (c : Thread nD τ) O W) ∗ kPayload m ρ c 0 (some (.inr x)) ∗ semVal (kcell (c, .inr x)) 0)
              -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hc, HO, Hm, Hat⟩
  iintro Hk
  iapply (Rounds.wp_wait_rest_token 𝒱₀ ER (Rd m ρ) (c : Thread nD τ) none (κ := K (c, .inr x))
      hw (Set.mem_univ _) () (O := O) (W := W) (R := 0) (m := 0) (T := ∅)
      (by rw [Nat.zero_add, expect_xfer m ρ c x])) $$ [Hc HO Hm Hat]
  · isplitr; · iapply (records_inv m ρ K (c, .inr x)); iexact HR
    isplitl [Hc]; · iexact Hc
    isplitl [HO]; · iexact HO
    isplitl [Hm]; · iexact Hm
    iexact Hat
  iintro ⟨HO, Hat, -, Hpay⟩
  ihave Hp := (Entails.of_eq (rest_xfer m ρ c x)) $$ Hpay
  imod (Rounds.cell_close ER (Rd m ρ) (Set.mem_univ (K (c, .inr x))) (fun h => h) (R := 0 + 1) (duties_later m ρ (kcell (c, .inr x)))) $$ [Hat] with Hz
  · isplitr; · iapply (records_inv m ρ K (c, .inr x)); iexact HR
    iexact Hat
  iapply Hk
  isplitl [HO]; · iexists _; iexact HO
  isplitl [Hp]; · iexact Hp
  iexact Hz

/-! ## The three operations -/

/-- An operation run from a state in which it may. -/
def Runs (K : Dev nD × CK → ℕ) (c : Dev nD) (p : (KProg F → KProg F)) (s s' : Ctl) : Prop :=
  ∀ (k : KProg F) (Q : PUnit → sProp 𝕄),
    iprop(records m ρ K ∗ levAts L lv ∗ St m ρ c s)
      ⊢ iprop((St m ρ c s' -∗ wp frame (wpE (defs₀ (F := F)) 𝒱₀ (c : Thread nD τ) none) Set.univ k Q)
          -∗ wp frame (wpE (defs₀ (F := F)) 𝒱₀ (c : Thread nD τ) none) Set.univ (p k) Q)

theorem owedX_erase (c : Dev nD) {U : Finset Sid} {i : Sid} (h : i ∈ U) :
    owedX c U = owedX c (U.erase i) + tallyAt (recvCell (sh (mv i) c) i) () N := by
  unfold owedX; exact (Finset.sum_erase_add U _ h).symm

theorem run_send (K : Dev nD × CK → ℕ) (c : Dev nD) (s : Ctl) (i : Sid) (h1 : i ∈ s.unsent) (h2 : i ∈ s.held) (h3 : i ∉ s.flying) :
    Runs m ρ K c (fun k => opProg c (.send i) >>= fun _ => k) s
      { s with unsent := s.unsent.erase i, held := s.held.erase i, flying := insert i s.flying } := by
  intro k Q
  simp only [opProg, Prog.lift, Prog.bind_op, Prog.bind_ret]
  unfold St
  dsimp only
  rw [sep_take h1, sep_take h2, sep_put h3, owedX_erase c h1]
  unfold sendRes
  iintro ⟨#HR, #Hlev, ⟨%W, HO⟩, ⟨⟨⟨%f, Hd⟩, Hts, Htr, Hat⟩, HU⟩, HV, ⟨Ht, HT⟩, HF, HG, HD⟩
  iintro Hk
  iapply (wp_send_chunk m ρ K c _ i (sendDev_eq i c) _ _ (sendOff_eq i c) f _ W) $$ [HO Hd Hts Htr Ht]
  · isplitr; · iexact HR
    isplitl [Ht]; · iexact Ht
    isplitl [Hd]; · iexact Hd
    isplitl [HO]; · iexact HO
    isplitl [Hts]; · iexact Hts
    iexact Htr
  iintro ⟨Hc, HO⟩
  iapply Hk
  isplitl [HO]; · iexists _; iexact HO
  isplitl [HU]; · iexact HU
  isplitl [HV]; · iexact HV
  isplitl [HT]; · iexact HT
  isplitl [HF Hc Hat]
  · isplitl [Hc Hat]
    · unfold flyRes; isplitl [Hc] <;> iassumption
    iexact HF
  isplitl [HG] <;> iassumption

theorem run_recv (K : Dev nD × CK → ℕ) (c : Dev nD) (s : Ctl) (j : Sid) (h1 : j ∈ s.coming) (h2 : j ∉ s.got)
    (h3 : ∀ i ∈ s.unsent, stage j < stage i) (h4 : Disjoint (outs (.inr j)) s.held) :
    Runs m ρ K c (fun k => opProg c (.recv j) >>= fun _ => k) s
      { s with coming := s.coming.erase j, held := outs (.inr j) ∪ s.held, got := insert j s.got } := by
  intro k Q
  simp only [opProg, Prog.lift, Prog.bind_op, Prog.bind_ret]
  unfold St
  dsimp only
  rw [sep_take h1, sep_put h2, sep_union h4]
  iintro ⟨#HR, #Hlev, ⟨%W, HO⟩, HU, ⟨Hj, HV⟩, HT, HF, HG, HD⟩
  iintro Hk
  unfold recvRes
  icases Hj with ⟨Hc, Hat⟩
  iapply (wp_wait_xfer m ρ K c (.inr j) _
      (wpE_waitDma2_eq (src := winM (recvOff j c) (recvOff_inb j c)) (dst := winM (recvOff j c) (recvOff_inb j c))
        (hsrc := ((Memref.isWhole_whole _).wordExact_slice rfl _ (off_words (recvOff_eq j c) _)))
        (hdst := ((Memref.isWhole_whole _).wordExact_slice rfl _ (off_words (recvOff_eq j c) _)))
        𝒱₀ (c : Thread nD τ) none Set.univ) (owedX c s.unsent) W) $$ [Hc HO Hat]
  · isplitr; · iexact HR
    isplitl [Hc]; · iexact Hc
    isplitl [HO]; · iexact HO
    isplitr
    · iapply (mayWait_X (F := F) c (csem (.inr (.inr j))) s.unsent (by rw [kindOf_csem]; exact h3)); iexact Hlev
    iexact Hat
  iintro ⟨HO, Hp, Hz⟩
  ihave Hp' := (Entails.of_eq (show kPayload m ρ c 0 (some (.inr (.inr j))) = _ from chunk_deal (xg m ρ) c (.inr j))) $$ Hp
  icases Hp' with ⟨Hb, Hts⟩
  iapply Hk
  isplitl [HO]; · iexact HO
  isplitl [HU]; · iexact HU
  isplitl [HV]; · iexact HV
  isplitl [HT Hts]; · isplitl [Hts] <;> iassumption
  isplitl [HF]; · iexact HF
  isplitl [HG Hb Hz]
  · isplitl [Hb Hz]
    · unfold gotRes; isplitl [Hb] <;> iassumption
    iexact HG
  iexact HD

theorem run_done (K : Dev nD × CK → ℕ) (c : Dev nD) (s : Ctl) (i : Sid) (h1 : i ∈ s.flying) (h2 : s.unsent = ∅)
    (h3 : i ∉ s.held) (h4 : i ∉ s.doneS) :
    Runs m ρ K c (fun k => opProg c (.done i) >>= fun _ => k) s
      { s with flying := s.flying.erase i, held := insert i s.held, doneS := insert i s.doneS } := by
  intro k Q
  simp only [opProg, Prog.lift, Prog.bind_op, Prog.bind_ret]
  unfold St
  dsimp only
  rw [sep_take h1, sep_put h3, sep_put h4]
  iintro ⟨#HR, #Hlev, ⟨%W, HO⟩, HU, HV, HT, ⟨Hi, HF⟩, HG, HD⟩
  iintro Hk
  unfold flyRes
  icases Hi with ⟨Hc, Hat⟩
  iapply (wp_wait_xfer m ρ K c (.inl i) _
      (wpE_waitDma2_eq (src := winM (sendOff i c) (sendOff_inb i c)) (dst := winM (sendOff i c) (sendOff_inb i c))
        (hsrc := ((Memref.isWhole_whole _).wordExact_slice rfl _ (off_words (sendOff_eq i c) _)))
        (hdst := ((Memref.isWhole_whole _).wordExact_slice rfl _ (off_words (sendOff_eq i c) _)))
        𝒱₀ (c : Thread nD τ) none Set.univ) (owedX c s.unsent) W) $$ [Hc HO Hat]
  · isplitr; · iexact HR
    isplitl [Hc]; · iexact Hc
    isplitl [HO]; · iexact HO
    isplitr
    · iapply (mayWait_X (F := F) c (csem (.inr (.inl i))) s.unsent (by rw [h2]; exact fun i hi => absurd hi (Finset.notMem_empty i))); iexact Hlev
    iexact Hat
  iintro ⟨HO, Hp, Hz⟩
  ihave Hp := (Entails.of_eq (show kPayload m ρ c 0 (some (.inr (.inl i))) = (tok (xg m ρ) c i : sProp 𝕄) from rfl)) $$ Hp
  iapply Hk
  isplitl [HO]; · iexact HO
  isplitl [HU]; · iexact HU
  isplitl [HV]; · iexact HV
  isplitl [HT Hp]
  · isplitl [Hp]; · iexact Hp
    iexact HT
  isplitl [HF]; · iexact HF
  isplitl [HG]; · iexact HG
  isplitl [Hz] <;> iassumption

/-- A step that is allowed is the step. -/
theorem of_guard {p : Prop} [Decidable p] {x y : Ctl} (h : (if p then some x else none) = some y) : p ∧ x = y := by
  by_cases hp : p
  · rw [if_pos hp] at h; exact ⟨hp, Option.some.inj h⟩
  · rw [if_neg hp] at h; cases h

theorem run_op (K : Dev nD × CK → ℕ) (c : Dev nD) (o : Op) (s s' : Ctl) (h : step s o = some s') :
    Runs m ρ K c (fun k => opProg c o >>= fun _ => k) s s' := by
  cases o with
  | send i => obtain ⟨hc, rfl⟩ := of_guard h; exact run_send m ρ K c s i hc.1 hc.2.1 hc.2.2
  | recv j => obtain ⟨hc, rfl⟩ := of_guard h; exact run_recv m ρ K c s j hc.1 hc.2.1 hc.2.2.1 hc.2.2.2
  | done i => obtain ⟨hc, rfl⟩ := of_guard h; exact run_done m ρ K c s i hc.1 hc.2.1 hc.2.2.1 hc.2.2.2

/-- A list of operations that may run from `s` and ends in `s'` takes the device from the one state to the other. -/
theorem run_ops (K : Dev nD × CK → ℕ) (c : Dev nD) (os : List Op) :
    ∀ s s', steps os s = some s' → Runs m ρ K c (run c os) s s' := by
  induction os with
  | nil =>
    intro s s' h k Q
    obtain rfl := Option.some.inj h
    unfold run
    iintro ⟨-, -, HS⟩ Hk
    iapply Hk; iexact HS
  | cons o os ih =>
    intro s s' h k Q
    obtain ⟨s₁, h₁, h₂⟩ := Option.bind_eq_some_iff.mp h
    unfold run
    iintro ⟨#HR, #Hlev, HS⟩ Hk
    iapply (run_op m ρ K c o s s₁ h₁ (run c os k) Q) $$ [HS]
    · isplitr; · iexact HR
      isplitr; · iexact Hlev
      iexact HS
    iintro HS
    iapply (ih s₁ s' h₂ k Q) $$ [HS]
    · isplitr; · iexact HR
      isplitr; · iexact Hlev
      iexact HS
    iexact Hk

/-! ## The two lists may run -/

/-- Before the first operation. -/
def ctl₀ : Ctl := ⟨Finset.univ, Finset.univ, outs (.inl 0) ∪ outs (.inl 1), ∅, ∅, ∅⟩
/-- After the first list: everything started, everything arrived. -/
def ctl₁ : Ctl := ⟨∅, ∅, ∅, Finset.univ, Finset.univ, ∅⟩
/-- Before the second: the arrived chunks have been taken out, for the product to read. -/
def ctl₂ : Ctl := ⟨∅, ∅, ∅, Finset.univ, ∅, ∅⟩
/-- After the last. -/
def ctl₃ : Ctl := ⟨∅, ∅, Finset.univ, ∅, ∅, Finset.univ⟩

/-- Equality of the final sets, set by set, is what is computed. -/
theorem steps_of_same {os : List Op} {s t : Ctl}
    (h : ((steps os s).any fun u => decide (u.unsent = t.unsent ∧ u.coming = t.coming ∧ u.held = t.held ∧ u.flying = t.flying
      ∧ u.got = t.got ∧ u.doneS = t.doneS)) = true) : steps os s = some t := by
  cases hs : steps os s with
  | none => rw [hs] at h; exact absurd h Bool.false_ne_true
  | some u =>
    rw [hs] at h
    obtain ⟨h1, h2, h3, h4, h5, h6⟩ := of_decide_eq_true h
    rcases u with ⟨_, _, _, _, _, _⟩
    rcases t with ⟨_, _, _, _, _, _⟩
    subst h1; subst h2; subst h3; subst h4; subst h5; subst h6
    rfl

theorem steps_gather : steps gatherOps ctl₀ = some ctl₁ := steps_of_same (by decide +kernel)
theorem steps_done : steps (doneSids.map .done) ctl₂ = some ctl₃ := steps_of_same (by decide +kernel)

end Cert.GatherProof

end
-- ==== Proof.Moves.lean ====
/-
# The parts of the body around the transfers

The entry barrier (seven signals, one wait), the copy of the own rows into the gathering buffer, and the final product.
-/
module

public import proofs.«01_k».proof.Proof.Steps

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Members grouped by the value of a function -/

theorem sep_by {M : Type*} [URA M] {I J : Type} [Fintype I] [Fintype J] [DecidableEq J] (g : I → J) (Φ : I → sProp M) :
    bigSep Finset.univ Φ = bigSep Finset.univ fun j => bigSep (Finset.univ.filter fun i => g i = j) Φ := by
  classical
  rw [bigSep_congr fun j _ => bigSep_filter Finset.univ (fun i => g i = j) Φ, bigSep_univ_comm]
  refine (bigSep_congr fun i _ => ?_).symm
  have h := bigSep_filter (M := M) Finset.univ (fun j => g i = j) (fun _ => Φ i)
  rw [Finset.filter_eq, if_pos (Finset.mem_univ _), bigSep_singleton] at h
  exact h.symm

/-! ## The entry barrier -/

/-- The numbering of the neighbours, seen from the other end. -/
def oppEquiv : Pid ≃ Pid := ⟨opp, opp, opp_opp, opp_opp⟩

/-- A device's own places, as its seven signals hand them over. -/
theorem places_out (c : Dev nD) :
    (bigSep Finset.univ fun i : Sid => iprop(∃ f, chunkPts (F := F) c (.inr i) fullShare f) : sProp 𝕄)
      = bigSep Finset.univ fun p : Pid => barPay (F := F) (sh (mvP p) c) (opp p) := by
  rw [sep_by via, bigSep_univ_equiv oppEquiv]
  refine bigSep_congr fun p _ => ?_
  unfold barPay
  refine bigSep_congr fun i hi => ?_
  have e : via i = opp p := (Finset.mem_filter.mp hi).2
  have e2 : mv i = -mvP p := (congrArg mvP e).trans (mvP_opp p)
  rw [e2, sh_neg_sh]

/-- The places a device may write, as its seven neighbours hand them over. -/
theorem places_in (c : Dev nD) :
    (bigSep Finset.univ fun d : Pid => barPay (F := F) c d : sProp 𝕄)
      = bigSep Finset.univ fun i : Sid => iprop(∃ f, chunkPts (F := F) (sh (mv i) c) (.inr i) fullShare f) :=
  (sep_by via _).symm

/-- What a device gives with signal `p`: the right to, and its places that neighbour writes. -/
def sigRes (c : Dev nD) (p : Pid) : sProp 𝕄 :=
  iprop(dutyTok ER (barCell (sh (mvP p) c)) 0 (opp p) ∗ barPay (F := F) (sh (mvP p) c) (opp p))

theorem wp_signal_one (K : Dev nD × CK → ℕ) (c n : Dev nD) (p : Pid) (hn : n = sh (mvP p) c)
    {α : Type} {Q : α → sProp 𝕄} {k : PUnit → Prog (TpuEff nD τ sig (Elt F) Λ₀ .tc) α} (O : CellTallies nD τ sig Unit) (W : Waits sig Unit) :
    iprop(records m ρ K ∗ owes (c : Thread nD τ) (O + tallyAt (barCell (sh (mvP p) c)) () 1) W ∗ sigRes (F := F) c p)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (semSignalWord n barS 1#32 >>= k) Q) := by
  subst hn
  unfold sigRes
  simp only [semSignalWord, Prog.lift, Prog.bind_op, Prog.bind_ret]
  iintro ⟨#HR, HO, Ht, Hp⟩
  have hd : opp p ∈ (Rd m ρ).duties ((sh (mvP p) c : Thread nD τ), SemLoc.reg barS) 0 := by
    have h := duties_at m ρ (sh (mvP p) c) (.inl ())
    exact h ▸ Finset.mem_univ _
  have hk : (Rd m ρ).amount ((sh (mvP p) c : Thread nD τ), SemLoc.reg barS) 0 (opp p) = ((1#32 : BitVec 32).toInt).toNat :=
    (amount_at m ρ (sh (mvP p) c) (.inl ()) (opp p)).trans (by decide)
  have hp : barPay (F := F) (sh (mvP p) c) (opp p) = (Rd m ρ).payload ((sh (mvP p) c : Thread nD τ), SemLoc.reg barS) 0 (opp p) :=
    (payload_at m ρ (sh (mvP p) c) (.inl ()) (opp p)).symm
  iapply (Rounds.wp_signal 𝒱₀ ER (Rd m ρ) (c : Thread nD τ) none (dst := (sh (mvP p) c : Thread nD τ)) (κ := K (sh (mvP p) c, .inl ()))
      (d := opp p) hd hk () O rfl) $$ [HO Ht Hp]
  isplitr; · iapply (records_inv m ρ K (sh (mvP p) c, .inl ())); iexact HR
  isplitl [HO]; · iexact HO
  isplitl [Ht]; · iexact Ht
  isplitl [Hp]
  · iapply (Entails.of_eq hp); iexact Hp
  iapply (records_reached m ρ K (sh (mvP p) c, .inl ())); iexact HR

/-- All the signals of a list. -/
theorem run_signals (K : Dev nD × CK → ℕ) (c : Dev nD) (O : CellTallies nD τ sig Unit) (W : Waits sig Unit) (k : KProg F)
    (Q : PUnit → sProp 𝕄) : ∀ ps : List Pid, ps.Nodup →
    (iprop(records m ρ K ∗ owes (c : Thread nD τ) (O + owedB c ps.toFinset) W ∗ bigSep ps.toFinset (sigRes (F := F) c))
      ⊢ iprop((owes (c : Thread nD τ) O W -∗ wp frame (wpE (defs₀ (F := F)) 𝒱₀ (c : Thread nD τ) none) Set.univ k Q)
          -∗ wp frame (wpE (defs₀ (F := F)) 𝒱₀ (c : Thread nD τ) none) Set.univ (signals c ps k) Q)) := by
  intro ps
  induction ps with
  | nil =>
    intro _
    unfold signals
    rw [List.toFinset_nil, show owedB c ∅ = 0 from Finset.sum_empty, add_zero]
    iintro ⟨-, HO, -⟩ Hk
    iapply Hk; iexact HO
  | cons p ps ih =>
    intro hn
    have hp : p ∉ ps.toFinset := fun h => (List.nodup_cons.mp hn).1 (List.mem_toFinset.mp h)
    unfold signals
    rw [List.toFinset_cons, sep_put hp, show owedB c (insert p ps.toFinset) = owedB c ps.toFinset + tallyAt (barCell (sh (mvP p) c)) () 1 from
      (Finset.sum_insert hp).trans (add_comm _ _), ← add_assoc]
    iintro ⟨#HR, HO, Hp, Hps⟩ Hk
    iapply (wp_signal_one m ρ K c _ p (Fin.ext (peerDevN_eq p c)) (O + owedB c ps.toFinset) W) $$ [HO Hp]
    · isplitr; · iexact HR
      isplitl [HO] <;> iassumption
    iintro HO
    iapply (ih (List.nodup_cons.mp hn).2) $$ [HO Hps]
    · isplitr; · iexact HR
      isplitl [HO] <;> iassumption
    iexact Hk

/-- The wait for the seven, which leaves the barrier's semaphore at zero. -/
theorem wp_barrier (K : Dev nD × CK → ℕ) (c : Dev nD)
    {α : Type} {Q : α → sProp 𝕄} {k : PUnit → Prog (TpuEff nD τ sig (Elt F) Λ₀ .tc) α} (W : Waits sig Unit) :
    iprop(records m ρ K ∗ levAts L lv ∗ cred (tallyAt (barCell c) () 7) ∗ owes (c : Thread nD τ) (owedX c Finset.univ) W ∗ atPos ER (barCell c) 0 ∅ 0)
      ⊢ iprop((((∃ W, owes (c : Thread nD τ) (owedX c Finset.univ) W)
                ∗ (bigSep Finset.univ fun i : Sid => iprop(∃ f, chunkPts (F := F) (sh (mv i) c) (.inr i) fullShare f)) ∗ semVal (barCell c) 0)
              -∗ wp frame (wpE (defs₀ (F := F)) 𝒱₀ (c : Thread nD τ) none) Set.univ (k ⟨⟩) Q)
          -∗ wp frame (wpE (defs₀ (F := F)) 𝒱₀ (c : Thread nD τ) none) Set.univ (semWaitWord barS 7#32 >>= k) Q) := by
  simp only [semWaitWord, Prog.lift, Prog.bind_op, Prog.bind_ret]
  have hr : bigSep ((Rd m ρ).duties ((c : Thread nD τ), SemLoc.reg barS) 0 \ ∅) (fun d => (Rd m ρ).payload ((c : Thread nD τ), SemLoc.reg barS) 0 d)
      = bigSep Finset.univ fun i : Sid => iprop(∃ f, chunkPts (F := F) (sh (mv i) c) (.inr i) fullShare f) :=
    (rest_bar m ρ c).trans (places_in c)
  iintro ⟨#HR, #Hlev, Hc, HO, Hat⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := owedX c Finset.univ) (W := W) (R := 0) (m := 0) (T := ∅)
      (show 0 + ((7#32 : BitVec 32).toInt).toNat = (Rd m ρ).expect (barCell c) 0 by rw [expect_bar]; decide)) $$ [Hc HO Hat]
  · isplitr; · iapply (records_inv m ρ K (c, .inl ())); iexact HR
    isplitl [Hc]; · iexact Hc
    isplitl [HO]; · iexact HO
    isplitr
    · iapply (mayWait_X (F := F) c (csem (.inl ())) Finset.univ (by rw [kindOf_csem]; exact fun i _ => stage_pos i)); iexact Hlev
    iexact Hat
  iintro ⟨HO, Hat, -, Hpay⟩
  ihave Hp := (Entails.of_eq hr) $$ Hpay
  imod (Rounds.cell_close ER (Rd m ρ) (Set.mem_univ (K (c, .inl ()))) (fun h => h) (R := 0 + 1) (duties_later m ρ (barCell c))) $$ [Hat] with Hz
  · isplitr; · iapply (records_inv m ρ K (c, .inl ())); iexact HR
    iexact Hat
  iapply Hk
  isplitl [HO]; · iexists _; iexact HO
  isplitl [Hp] <;> iassumption

/-! ## The own rows -/

/-- The rows of device `c` in the gathering buffer. -/
abbrev ownR (c : Dev nD) : Rect S1024x1024 := Rect.unit (s := S1024x1024) (k0_off1 c) S32x1024.size (k0_off1_inb c)

theorem ownR_set (c : Dev nD) : (ownR c).set = keySet c (.inl 0) ∪ keySet c (.inl 1) := by
  ext x
  have h1 : (x 1).val < 1024 := (x 1).isLt
  rw [Finset.mem_union]
  unfold keySet
  rw [mem_chunkSet, mem_chunkSet, show sh (keyOrg (.inl 0)) c = c from sh_zero c, show sh (keyOrg (.inl 1)) c = c from sh_zero c]
  rw [Rect.mem_set_unit, Fin.forall_fin_two, k0_off1_eq]
  show (32 * c.val ≤ (x 0).val ∧ (x 0).val < 32 * c.val + 32) ∧ (0 ≤ (x 1).val ∧ (x 1).val < 0 + 1024)
    ↔ ((x 0).val / 32 = c.val ∧ (x 1).val / 512 = 0) ∨ ((x 0).val / 32 = c.val ∧ (x 1).val / 512 = 1)
  omega

theorem own_join (c : Dev nD) (f : GBuf F) :
    (gLoc c ↦[(ownR c).set]{fullShare} f : sProp 𝕄) = iprop(chunkPts c (.inl 0) fullShare f ∗ chunkPts c (.inl 1) fullShare f) := by
  rw [ownR_set]
  have h := pointsTo_union (Ix := Unit) (Name := ℕ) (U := UU) (Lvl := ℕ) (ℓ := gLoc c) (q := fullShare) (f := f)
    (keySet_disjoint c (.inl 0) (.inl 1) (by decide))
  exact BI.Entails.antisymm h.1 h.2

/-- A reshape to the same shape changes nothing. -/
theorem cast_same {s : Shape} {α : Type} (v : s.Idx → α) (h : s.ShapeCasts s) : shapeCast s v h = v :=
  funext fun i => congrArg v (Shape.reshapeEquiv_self _ i)

theorem ownW_set (c : Dev nD) : (gM.access (ownR c)).set = (ownR c).set := View.set_slice_whole _ _

/-- The own rows once stored are those of the gathered matrix. -/
theorem own_stored (c : Dev nD) (f : GBuf F) :
    ∀ x ∈ (ownR c).set, (gM.access (ownR c)).write (Elt F) f (k0_pay1 (xstg m ρ c)) Finset.univ x = xg m ρ x := by
  intro x hx
  rw [← ownW_set] at hx
  obtain ⟨y, -, rfl⟩ := Finset.mem_map.mp hx
  refine (View.write_emb_of_mem (v := gM.access (ownR c)) f _ (Finset.mem_univ y)).trans ?_
  show k0_pay1 (xstg m ρ c) y = xstg m ρ (rowDev (((gM.access (ownR c)).emb y) 0)) (rowIdx ((gM.access (ownR c)).emb y))
  have h0 : (((gM.access (ownR c)).emb y) 0).val = 32 * c.val + (y 0).val := by
    show k0_off1 c 0 + 1 * (y 0).val = _
    rw [k0_off1_eq, one_mul]; rfl
  have h1 : (((gM.access (ownR c)).emb y) 1).val = (y 1).val := by
    show k0_off1 c 1 + 1 * (y 1).val = _
    rw [k0_off1_eq, one_mul]; exact Nat.zero_add _
  have hy0 : (y 0).val < 32 := (y 0).isLt
  have e1 : rowDev (((gM.access (ownR c)).emb y) 0) = c := Fin.ext (show _ / 32 = c.val by rw [h0]; omega)
  have e2 : rowIdx ((gM.access (ownR c)).emb y) = y := funext fun a => by
    fin_cases a
    · exact Fin.ext (show _ % 32 = (y 0).val by rw [h0]; omega)
    · exact Fin.ext h1
  rw [e1, e2]
  unfold k0_pay1
  rw [cast_same, cast_same]

theorem hz2 : (![0, 0] : Fin 2 → ℕ) = fun _ => 0 := funext fun a => by fin_cases a <;> rfl

abbrev stgPts (c : Dev nD) (b : Ref sig .tc) (X : b.ty.Contents (Elt F)) : sProp 𝕄 := (((c : Thread nD τ).loc b) ↦{fullShare} X)

theorem run_copyIn (c : Dev nD) (f : GBuf F) (k : KProg F) (Q : PUnit → sProp 𝕄) :
    iprop(stgPts c cc0_stg0_0 (xstg m ρ c) ∗ chunkPts c (.inl 0) fullShare f ∗ chunkPts c (.inl 1) fullShare f)
      ⊢ iprop(((stgPts c cc0_stg0_0 (xstg m ρ c) ∗ chunkPts c (.inl 0) fullShare (xg m ρ) ∗ chunkPts c (.inl 1) fullShare (xg m ρ))
              -∗ wp frame (wpE (defs₀ (F := F)) 𝒱₀ (c : Thread nD τ) none) Set.univ k Q)
          -∗ wp frame (wpE (defs₀ (F := F)) 𝒱₀ (c : Thread nD τ) none) Set.univ (copyIn c k) Q) := by
  rw [← own_join, ← own_join]
  unfold copyIn
  simp only [Prog.lift, Prog.bind_op, Prog.bind_ret]
  iintro ⟨Hx, Hg⟩ Hk
  iapply (wp_load 𝒱₀ (c : Thread nD τ) none Set.univ (m := xM) (Finset.subset_univ _)) $$ Hx; iintro Hx
  rw [show xM.view.readAt (Elt F) (Rect.unit (s := S32x1024) ![0, 0] S32x1024.size inb_S32x1024_S32x1024_0_0).toLoadRect (xstg m ρ c) = xstg m ρ c from
    Memref.readAt_unit_zero (Elt F) cc0_stg0_0 hz2 _ _]
  iapply (wp_load 𝒱₀ (c : Thread nD τ) none Set.univ (m := gM) (r := (ownR c).toLoadRect) (S := (ownR c).set)
    (fun x hx => by obtain ⟨y, hy, rfl⟩ := Finset.mem_map.mp hx; exact hy)) $$ Hg; iintro Hg
  iapply (wp_store 𝒱₀ (c : Thread nD τ) none Set.univ (m := gM) (r := ownR c) (Mk := Finset.univ) (S := (ownR c).set)
    (by rw [View.setOn_univ, ownW_set])) $$ Hg; iintro Hg
  ihave Hg := (Entails.of_eq (pointsTo_congr (own_stored m ρ c f))) $$ Hg
  iapply Hk
  isplitl [Hx] <;> iassumption

/-! ## The product -/

theorem run_product (c : Dev nD) (q : PosShare TreeShare) (o : (cc0_stg2_0 : Ref sig .tc).ty.Contents (Elt F)) (k : KProg F) (Q : PUnit → sProp 𝕄) :
    iprop((gLoc c ↦{q} xg m ρ) ∗ stgPts c cc0_stg1_0 (wstg m ρ c) ∗ stgPts c cc0_stg2_0 o)
      ⊢ iprop((((gLoc c ↦{q} xg m ρ) ∗ stgPts c cc0_stg1_0 (wstg m ρ c) ∗ stgPts c cc0_stg2_0 (outAt m ρ c))
              -∗ wp frame (wpE (defs₀ (F := F)) 𝒱₀ (c : Thread nD τ) none) Set.univ k Q)
          -∗ wp frame (wpE (defs₀ (F := F)) 𝒱₀ (c : Thread nD τ) none) Set.univ (product k) Q) := by
  unfold product
  simp only [Prog.lift, Prog.bind_op, Prog.bind_ret]
  iintro ⟨Hg, Hw, Ho⟩ Hk
  iapply (wp_load 𝒱₀ (c : Thread nD τ) none Set.univ (m := gM) (Finset.subset_univ _)) $$ Hg; iintro Hg
  rw [show gM.view.readAt (Elt F) (Rect.unit (s := S1024x1024) ![0, 0] S1024x1024.size inb_S1024x1024_S1024x1024_0_0).toLoadRect (xg m ρ) = xg m ρ from
    Memref.readAt_unit_zero (Elt F) cc0_scratch0 hz2 _ _]
  iapply (wp_load 𝒱₀ (c : Thread nD τ) none Set.univ (m := wM) (Finset.subset_univ _)) $$ Hw; iintro Hw
  rw [show wM.view.readAt (Elt F) (Rect.unit (s := S1024x32) ![0, 0] S1024x32.size inb_S1024x32_S1024x32_0_0).toLoadRect (wstg m ρ c) = wstg m ρ c from
    Memref.readAt_unit_zero (Elt F) cc0_stg1_0 hz2 _ _]
  iapply (wp_load 𝒱₀ (c : Thread nD τ) none Set.univ (m := oM) (Finset.subset_univ _)) $$ Ho; iintro Ho
  iapply (wp_store 𝒱₀ (c : Thread nD τ) none Set.univ (m := oM) (r := Rect.unit (s := S1024x32) ![0, 0] S1024x32.size inb_S1024x32_S1024x32_0_0)
    (Mk := Finset.univ) (Finset.subset_univ _)) $$ Ho; iintro Ho
  rw [show (oM.access (Rect.unit (s := S1024x32) ![0, 0] S1024x32.size inb_S1024x32_S1024x32_0_0)).write (Elt F) o (k0_pay2 (xg m ρ) (wstg m ρ c)) Finset.univ
      = outAt m ρ c from Memref.write_access_unit_zero_univ (Elt F) cc0_stg2_0 hz2 _ _ _]
  iapply Hk
  isplitl [Hg]; · iexact Hg
  isplitl [Hw] <;> iassumption

end Cert.GatherProof

end
-- ==== Proof.Body.lean ====
/-
# The body of one device

Run once, at a symbolic device, for any float values: from what a device starts with to the gathered matrix in its
gathering buffer, the product in its result, and its semaphores at zero.
-/
module

public import proofs.«01_k».proof.Proof.Moves
public import proofs.«01_k».proof.Proof.Gen.KernelIdeal.Points

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## What a device starts from and ends with -/

/-- The rights to pay and the positions of device `c`: at its barrier, its seven signals, and its transfers. -/
def linear (c : Dev nD) : sProp 𝕄 :=
  iprop(atPos ER (barCell c) 0 ∅ 0
    ∗ (bigSep Finset.univ fun p : Pid => dutyTok ER (barCell (sh (mvP p) c)) 0 (opp p))
    ∗ (bigSep Finset.univ fun i : Sid => dutyTok ER (sendCell c i) 0 0)
    ∗ (bigSep Finset.univ fun i : Sid => dutyTok ER (recvCell (sh (mv i) c) i) 0 0)
    ∗ (bigSep Finset.univ fun i : Sid => atPos ER (sendCell c i) 0 ∅ 0)
    ∗ (bigSep Finset.univ fun i : Sid => atPos ER (recvCell c i) 0 ∅ 0))

/-- The credit it is given at launch. -/
def credits (c : Dev nD) : sProp 𝕄 :=
  iprop(cred (tallyAt (barCell c) () 7) ∗ bigSep Finset.univ fun i : Sid => cred (tallyAt (recvCell c i) () N))

def start (c : Dev nD) : sProp 𝕄 :=
  iprop((∃ K, records m ρ K ∗ linear (F := F) c) ∗ credits (F := F) c ∗ levAts L lv)

/-- Before the body. -/
def Φ₀ (c : Dev nD) : sProp 𝕄 := iprop(start m ρ c ∗ ∃ f : GBuf F, gLoc c ↦{fullShare} f)
/-- After it: the gathering buffer holds the gathered matrix, and the gather's semaphores are at zero. -/
def Φ₁ (c : Dev nD) : sProp 𝕄 :=
  iprop((gLoc c ↦{fullShare} xg m ρ) ∗ (bigSep Finset.univ fun i : Sid => semVal (sendCell c i) 0)
    ∗ (bigSep Finset.univ fun i : Sid => semVal (recvCell c i) 0) ∗ semVal (barCell c) 0)

/-! ## Taking the gathering buffer apart and putting it together -/

theorem two_eq (Φ : Fin 2 → sProp 𝕄) : bigSep Finset.univ Φ = iprop(Φ 0 ∗ Φ 1) :=
  bigSep_univ_eq_bigSepL [0, 1] (by decide) (by decide) Φ

theorem keys_eq (Φ : Key → sProp 𝕄) :
    bigSep Finset.univ Φ = iprop((Φ (.inl 0) ∗ Φ (.inl 1)) ∗ bigSep Finset.univ fun i : Sid => Φ (.inr i)) := by
  rw [bigSep_univ_sum, two_eq]; rfl

/-- The buffer at launch: the own chunks, and the places the signals hand over. -/
theorem buffer_out (c : Dev nD) (f : GBuf F) :
    (gLoc c ↦{fullShare} f : sProp 𝕄) ⊢ iprop((chunkPts c (.inl 0) fullShare f ∗ chunkPts c (.inl 1) fullShare f)
      ∗ bigSep Finset.univ fun p : Pid => barPay (F := F) (sh (mvP p) c) (opp p)) := by
  rw [buffer_chunks, keys_eq, ← places_out]
  have h (i : Sid) : chunkPts c (.inr i) fullShare f ⊢ (iprop(∃ f, chunkPts (F := F) c (.inr i) fullShare f) : sProp 𝕄) := by
    iintro H; iexists f; iexact H
  iintro ⟨H, Hr⟩
  isplitl [H]; · iexact H
  iapply (show (bigSep Finset.univ fun i : Sid => chunkPts c (.inr i) fullShare f) ⊢ (bigSep Finset.univ fun i : Sid => iprop(∃ f, chunkPts (F := F) c (.inr i) fullShare f) : sProp 𝕄)
    from bigSep_mono fun i _ => h i)
  iexact Hr

/-- The bases of all chunks: the whole buffer at the left half of the share, and what is left of the right half. -/
theorem bases_eq (g : GBuf F) (c : Dev nD) :
    (bigSep Finset.univ (base g c) : sProp 𝕄) = iprop((gLoc c ↦{fullShare.left} g) ∗ bigSep Finset.univ fun k => chunkPts c k (restShare k) g) := by
  rw [buffer_chunks, ← bigSep_sep']; rfl

/-- The bases and all the read shares are the whole buffer. -/
theorem buffer_in (g : GBuf F) (c : Dev nD) :
    iprop((bigSep Finset.univ (base g c)) ∗ bigSep Finset.univ (tok g c)) ⊢ (gLoc c ↦{fullShare} g : sProp 𝕄) := by
  rw [toks_by_key, buffer_chunks, ← bigSep_sep']
  exact bigSep_mono fun k _ => Entails.of_eq (chunk_deal g c k).symm

theorem own_outs_disjoint : Disjoint (outs (.inl 0)) (outs (.inl 1)) := by
  rw [Finset.disjoint_left]
  intro i h0 h1
  exact absurd ((Finset.mem_filter.mp h0).2.symm.trans (Finset.mem_filter.mp h1).2) (by decide)

/-- The two own chunks, dealt out. -/
theorem own_deal (g : GBuf F) (c : Dev nD) :
    iprop(chunkPts c (.inl 0) fullShare g ∗ chunkPts c (.inl 1) fullShare g)
      ⊢ (iprop((base g c (.inl 0) ∗ base g c (.inl 1)) ∗ bigSep (outs (.inl 0) ∪ outs (.inl 1)) (tok g c)) : sProp 𝕄) := by
  rw [chunk_deal, chunk_deal, sep_union own_outs_disjoint]
  iintro ⟨⟨H0, T0⟩, H1, T1⟩
  isplitl [H0 H1]
  · isplitl [H0] <;> iassumption
  isplitl [T0] <;> iassumption

/-! ## The states between the parts -/

theorem sigRes_intro (c : Dev nD) :
    iprop((bigSep Finset.univ fun p : Pid => dutyTok ER (barCell (sh (mvP p) c)) 0 (opp p))
      ∗ bigSep Finset.univ fun p : Pid => barPay (F := F) (sh (mvP p) c) (opp p)) ⊢ (bigSep Finset.univ (sigRes (F := F) c) : sProp 𝕄) := by
  rw [← bigSep_sep']; exact Entails.of_eq rfl

/-- The state the first list starts from. -/
theorem St_first (c : Dev nD) :
    iprop((∃ W, owes (c : Thread nD τ) (owedX c Finset.univ) W)
      ∗ (bigSep Finset.univ fun i : Sid => iprop(∃ f, chunkPts (F := F) (sh (mv i) c) (.inr i) fullShare f))
      ∗ (bigSep Finset.univ fun i : Sid => dutyTok ER (sendCell c i) 0 0)
      ∗ (bigSep Finset.univ fun i : Sid => dutyTok ER (recvCell (sh (mv i) c) i) 0 0)
      ∗ (bigSep Finset.univ fun i : Sid => atPos ER (sendCell c i) 0 ∅ 0)
      ∗ (bigSep Finset.univ fun i : Sid => cred (tallyAt (recvCell c i) () N))
      ∗ (bigSep Finset.univ fun i : Sid => atPos ER (recvCell c i) 0 ∅ 0)
      ∗ bigSep (outs (.inl 0) ∪ outs (.inl 1)) (tok (xg m ρ) c))
      ⊢ St m ρ c ctl₀ := by
  unfold St ctl₀
  dsimp only
  have e1 : (bigSep Finset.univ (sendRes (F := F) c) : sProp 𝕄)
      = iprop((bigSep Finset.univ fun i : Sid => iprop(∃ f, chunkPts (F := F) (sh (mv i) c) (.inr i) fullShare f))
        ∗ (bigSep Finset.univ fun i : Sid => dutyTok ER (sendCell c i) 0 0)
        ∗ (bigSep Finset.univ fun i : Sid => dutyTok ER (recvCell (sh (mv i) c) i) 0 0)
        ∗ (bigSep Finset.univ fun i : Sid => atPos ER (sendCell c i) 0 ∅ 0)) := by
    rw [← bigSep_sep', ← bigSep_sep', ← bigSep_sep']; rfl
  have e2 : (bigSep Finset.univ (recvRes (F := F) c) : sProp 𝕄)
      = iprop((bigSep Finset.univ fun i : Sid => cred (tallyAt (recvCell c i) () N))
        ∗ (bigSep Finset.univ fun i : Sid => atPos ER (recvCell c i) 0 ∅ 0)) := by
    rw [← bigSep_sep']; rfl
  rw [e1, e2, bigSep_empty, bigSep_empty, bigSep_empty]
  iintro ⟨HO, H1, H2, H3, H4, H5, H6, HT⟩
  isplitl [HO]; · iexact HO
  isplitl [H1 H2 H3 H4]
  · isplitl [H1]; · iexact H1
    isplitl [H2]; · iexact H2
    isplitl [H3] <;> iassumption
  isplitl [H5 H6]
  · isplitl [H5] <;> iassumption
  isplitl [HT]; · iexact HT
  isplitl; · iempintro
  isplitl; · iempintro
  iempintro

/-- After the first list, the bases of the arrived chunks and their semaphores are taken out. -/
theorem St_between (c : Dev nD) :
    St m ρ c ctl₁ ⊢ iprop(St m ρ c ctl₂ ∗ (bigSep Finset.univ fun i : Sid => base (xg m ρ) c (.inr i))
      ∗ bigSep Finset.univ fun i : Sid => semVal (recvCell c i) 0) := by
  have e : (bigSep Finset.univ (gotRes m ρ c) : sProp 𝕄) = iprop((bigSep Finset.univ fun i : Sid => base (xg m ρ) c (.inr i))
      ∗ bigSep Finset.univ fun i : Sid => semVal (recvCell c i) 0) := by
    rw [← bigSep_sep']; rfl
  unfold St ctl₁ ctl₂
  dsimp only
  rw [e, bigSep_empty (Φ := gotRes m ρ c)]
  iintro ⟨HO, H1, H2, H3, H4, ⟨H5, H6⟩, H7⟩
  isplitr [H5 H6]
  · isplitl [HO]; · iexact HO
    isplitl [H1]; · iexact H1
    isplitl [H2]; · iexact H2
    isplitl [H3]; · iexact H3
    isplitl [H4]; · iexact H4
    isplitr; · iempintro
    iexact H7
  isplitl [H5] <;> iassumption

/-- After the second, nothing is owed, every read share is back and the send semaphores are at zero. -/
theorem St_last (c : Dev nD) :
    St m ρ c ctl₃ ⊢ iprop((∃ W, owes (c : Thread nD τ) 0 W) ∗ (bigSep Finset.univ (tok (xg m ρ) c))
      ∗ bigSep Finset.univ fun i : Sid => semVal (sendCell c i) 0) := by
  unfold St ctl₃
  dsimp only
  rw [show owedX c ∅ = 0 from Finset.sum_empty]
  iintro ⟨HO, -, -, HT, -, -, HD⟩
  isplitl [HO]; · iexact HO
  isplitl [HT] <;> iassumption

/-! ## The pipeline's proof data: one grid point, three windows -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := Fin.ext (by have h : t.val < 1 := cfg0_N ▸ t.isLt; exact Nat.lt_one_iff.mp h)

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ stgPts c b f) := by
  unfold owns; simp only [Memref.view_whole, View.read_whole, View.set_whole]

/-- Staged contents. -/
abbrev stg (c : Dev nD) (b : Ref sig .tc) (X : b.ty.Contents (Elt F)) : sProp 𝕄 :=
  iprop(∃ f : Buf (Elt F) ((c : Thread nD τ).loc b), ⌜f = X⌝ ∗ stgPts c b f)

/-- Before and after the body, window by window. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (wstg m ρ c)
    ∗ stg c cc0_stg2_0 (outAt m ρ c))

theorem before_x (c : Dev nD) (d) : (dats m ρ 0 c).before (0 : Fin 3) t₀ d = xstg m ρ c := by
  unfold Dat.before; rw [if_pos (show (cfg0.win (0 : Fin 3)).fetch t₀ = true from rfl)]; rfl
theorem before_w (c : Dev nD) (d) : (dats m ρ 0 c).before (1 : Fin 3) t₀ d = wstg m ρ c := by
  unfold Dat.before; rw [if_pos (show (cfg0.win (1 : Fin 3)).fetch t₀ = true from rfl)]; rfl

theorem all_peers : ([0, 1, 2, 3, 4, 5, 6] : List Pid).toFinset = Finset.univ := by decide

/-- The body on device `c`, part by part. -/
theorem sound_body (c : Dev nD) :
    bodyPre m ρ c ⊢ wp frame (wpE (defs₀ (F := F)) 𝒱₀ (c : Thread nD τ) none) Set.univ
      (cc0_body xM (Memref.isWhole_whole _) wM (Memref.isWhole_whole _) oM (Memref.isWhole_whole _) gM (Memref.isWhole_whole _) cc0_scratch1 cc0_scratch2)
      (fun _ => bodyPost m ρ c) := by
  rw [body_eq]
  unfold body
  rw [show (Prog.lift .deviceId >>= fun c' : Dev nD => signals c' [0, 1, 2, 3, 4, 5, 6] (semWaitWord barS 7#32 >>= fun _ =>
      copyIn c' (run c' gatherOps (product (run c' (doneSids.map .done) (pure ⟨⟩)))))) = (Prog.op (.deviceId : TpuEff nD τ sig (Elt F) Λ₀ .tc (Dev nD)) fun c' : Dev nD => signals c' [0, 1, 2, 3, 4, 5, 6] (semWaitWord barS 7#32 >>= fun _ =>
      copyIn c' (run c' gatherOps (product (run c' (doneSids.map .done) (pure ⟨⟩)))))) from rfl, wp_deviceId]
  unfold bodyPre Φ₀ start linear credits
  iintro ⟨⟨⟨⟨%K, #HR, HatB, HtB, HtS, HtV, HatS, HatV⟩, ⟨HcB, HcV⟩, #Hlev⟩, ⟨%f, Hg⟩⟩, Ho, ⟨%d0, %g0, %hg0, Hx⟩, ⟨%d1, %g1, %hg1, Hw⟩, ⟨%d2, %g2, %hg2, Hout⟩⟩
  have hx := hg0.trans (before_x m ρ c d0)
  have hw := hg1.trans (before_w m ρ c d1)
  subst hx
  subst hw
  unfold Dat.owesAt Pipeline.owesWithin
  icases Ho with ⟨%W, %hW, HO⟩
  rw [show (dats m ρ 0 c).owed t₀.castSucc = owedX c Finset.univ + owedB c ([0, 1, 2, 3, 4, 5, 6] : List Pid).toFinset from by rw [all_peers]; rfl]
  ihave Hg := (buffer_out c f) $$ Hg
  icases Hg with ⟨Hown, Hpl⟩
  ihave Hsig := (sigRes_intro (F := F) c) $$ [HtB Hpl]
  · isplitl [HtB] <;> iassumption
  iapply (run_signals m ρ K c (owedX c Finset.univ) W _ _ [0, 1, 2, 3, 4, 5, 6] (by decide)) $$ [HO Hsig]
  · isplitr; · iexact HR
    isplitl [HO]; · iexact HO
    rw [all_peers]; iexact Hsig
  iintro HO
  iapply (wp_barrier m ρ K c W) $$ [HcB HO HatB]
  · isplitr; · iexact HR
    isplitr; · iexact Hlev
    isplitl [HcB]; · iexact HcB
    isplitl [HO] <;> iassumption
  iintro ⟨HO, Hin, HzB⟩
  icases Hown with ⟨H0, H1⟩
  iapply (run_copyIn m ρ c f _ _) $$ [Hx H0 H1]
  · isplitl [Hx]; · iexact Hx
    isplitl [H0] <;> iassumption
  iintro ⟨Hx, H01⟩
  ihave H01 := (own_deal (xg m ρ) c) $$ H01
  icases H01 with ⟨Hb, HT⟩
  ihave HS := (St_first m ρ c) $$ [HO Hin HtS HtV HatS HcV HatV HT]
  · isplitl [HO]; · iexact HO
    isplitl [Hin]; · iexact Hin
    isplitl [HtS]; · iexact HtS
    isplitl [HtV]; · iexact HtV
    isplitl [HatS]; · iexact HatS
    isplitl [HcV]; · iexact HcV
    isplitl [HatV] <;> iassumption
  iapply (run_ops m ρ K c gatherOps ctl₀ ctl₁ steps_gather _ _) $$ [HS]
  · isplitr; · iexact HR
    isplitr; · iexact Hlev
    iexact HS
  iintro HS
  ihave HS := (St_between m ρ c) $$ HS
  icases HS with ⟨HS, Hbs, HzV⟩
  ihave Hbs := (Entails.of_eq ((keys_eq (base (xg m ρ) c)).symm.trans (bases_eq (xg m ρ) c))) $$ [Hb Hbs]
  · isplitl [Hb] <;> iassumption
  icases Hbs with ⟨Hg, Hrest⟩
  iapply (run_product m ρ c fullShare.left g2 _ _) $$ [Hg Hw Hout]
  · isplitl [Hg]; · iexact Hg
    isplitl [Hw] <;> iassumption
  iintro ⟨Hg, Hw, Hout⟩
  ihave Hbs := (Entails.of_eq (bases_eq (xg m ρ) c).symm) $$ [Hg Hrest]
  · isplitl [Hg] <;> iassumption
  iapply (run_ops m ρ K c (doneSids.map .done) ctl₂ ctl₃ steps_done _ _) $$ [HS]
  · isplitr; · iexact HR
    isplitr; · iexact Hlev
    iexact HS
  iintro HS
  ihave HS := (St_last m ρ c) $$ HS
  icases HS with ⟨⟨%W', HO⟩, HT, HzS⟩
  ihave Hg := (buffer_in (xg m ρ) c) $$ [Hbs HT]
  · isplitl [Hbs] <;> iassumption
  rw [Prog.pure_eq_ret, wp_ret]; imodintro
  unfold bodyPost Φ₁ Dat.owesAt Pipeline.owesWithin
  rw [show (dats m ρ 0 c).owed t₀.succ = 0 from rfl]
  isplitl [Hg HzS HzV HzB]
  · isplitl [Hg]; · iexact Hg
    isplitl [HzS]; · iexact HzS
    isplitl [HzV] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The program the pipeline runs at the one grid point. -/
theorem body_at : (defs₀ (F := F)) Proc.tc 0 (t₀, cfg0.slots t₀)
    = cc0_body xM (Memref.isWhole_whole _) wM (Memref.isWhole_whole _) oM (Memref.isWhole_whole _) gM (Memref.isWhole_whole _) cc0_scratch1 cc0_scratch2 := by
  have h : (defs₀ (F := F)) Proc.tc 0 (t₀, cfg0.slots t₀) = bodyAt0 t₀ := rfl
  rw [h]

/-- The body meets what the pipeline asks of it. -/
theorem body_obligation (c : Dev nD) : BodyObligation (dats (F := F) m ρ 0 c) (defs₀ (F := F)) 𝒱₀ () Set.univ := fun t => by
  rw [fin_N t]
  rw [bigSep_W0, bigSep_W0]
  simp only [owns_stage]
  have h := sound_body m ρ c
  rw [show (dats m ρ 0 c).Φ t₀.castSucc = Φ₀ m ρ c from rfl, show (dats m ρ 0 c).Φ t₀.succ = Φ₁ m ρ c from rfl,
    show (dats m ρ 0 c).after (0 : Fin 3) t₀ = xstg m ρ c from rfl, show (dats m ρ 0 c).after (1 : Fin 3) t₀ = wstg m ρ c from rfl,
    show (dats m ρ 0 c).after (2 : Fin 3) t₀ = outAt m ρ c from rfl]
  rw [show (defs₀ (F := F)) (c : Thread nD τ).2 cfg0.body (t₀, cfg0.slots t₀) = _ from body_at]
  refine BI.Entails.trans ?_ (BI.Entails.trans h ?_)
  · unfold bodyPre; exact BI.Entails.refl _
  · unfold bodyPost; convert BI.Entails.refl _ using 2

end Cert.GatherProof

end
-- ==== Proof.Launch.lean ====
/-
# The launch

From the memory the 32 devices start from to the run of the whole program: the cells of the gather's semaphores are
minted once, their invariants opened for everybody, every right to pay a duty handed to the device that pays it, and the
body of one device (module Body) is run on all of them. What comes out is `run_main`.
-/
module

public import proofs.«01_k».proof.Proof.Body
public import proofs.«01_k».proof.Proof.Gen.KernelIdeal.Launch
public import Idealize.ShloMosaic.Lib.Pipeline.CollectiveSegs

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## The kernel's semaphores -/

/-- The semaphores of the transfers: the ones the kernel declares beside those of its windows. -/
abbrev osem (k : Sid ⊕ Sid) : SemLoc sig := csem (.inr k)

theorem osem_scoped : ∀ k, (osem k).isScoped .tc = true := by decide +kernel

theorem kindOf_stage : ∀ (w : Fin cfg0.W) (s : Fin (cfg0.spec w).nbuf),
    kindOf (SemLoc.dma ((cfg0.spec w).sem s)) = none := by decide +kernel

theorem ownSemFacts : Pipeline.OwnSemFacts cfg0.spec osem where
  isScoped := osem_scoped
  inj := fun k k' h => Sum.inr_injective (csem_inj h)
  disj := fun k w s h => by
    have h' := congrArg kindOf h
    rw [kindOf_stage, kindOf_csem] at h'
    exact absurd h' (by simp)

theorem share_eq (c : Dev nD) (w : Fin cfg0.W) : (dats m ρ 0 c).share w = fullShare := by
  unfold Dat.share; split <;> rfl

/-- The cells of the gather: every semaphore of it on every device. -/
def cells : Finset (GSem nD τ sig) := Finset.univ.map ⟨kcell, fun _ _ => kcell_inj⟩

/-- The rights to pay at the cells of one device: seven signals, and one deposit per transfer semaphore. -/
abbrev TK : Type := Pid ⊕ (Sid ⊕ Sid)

/-- The semaphore a right is at, and which duty there it is. -/
def tokAt : TK → CK × Pid
  | .inl p => (.inl (), p)
  | .inr k => (.inr k, 0)

theorem tokAt_inj : Function.Injective tokAt := by
  rintro (p | k) (p' | k') h
  · exact congrArg Sum.inl (congrArg Prod.snd h)
  · exact absurd (congrArg Prod.fst h) (by simp [tokAt])
  · exact absurd (congrArg Prod.fst h) (by simp [tokAt])
  · exact congrArg Sum.inr (Sum.inr_injective (congrArg Prod.fst h))

def tokOf (x : Dev nD × TK) : GSem nD τ sig × ℕ × Pid := (kcell (x.1, (tokAt x.2).1), 0, (tokAt x.2).2)

theorem tokOf_inj : Function.Injective tokOf := by
  rintro ⟨c, k⟩ ⟨c', k'⟩ h
  have h1 := kcell_inj (congrArg Prod.fst h)
  have h2 : (tokAt k).2 = (tokAt k').2 := congrArg (fun y : GSem nD τ sig × ℕ × Pid => y.2.2) h
  exact Prod.ext (congrArg Prod.fst h1 :) (tokAt_inj (Prod.ext (congrArg Prod.snd h1 :) h2))

def rights : Finset (GSem nD τ sig × ℕ × Pid) := Finset.univ.map ⟨tokOf, tokOf_inj⟩

/-- The ghost state minted at launch. -/
def u₀ : UU := (initOf (Pipeline.cells cfgs cellOf_inj) (Pipeline.launchToks cfgs cellOf_inj), initOf cells rights)

/-- The rights at the cells of device `c`, as minted. -/
def toks (c : Dev nD) : sProp 𝕄 :=
  iprop((bigSep Finset.univ fun p : Pid => dutyTok ER (barCell c) 0 p)
    ∗ (bigSep Finset.univ fun i : Sid => dutyTok ER (sendCell c i) 0 0)
    ∗ (bigSep Finset.univ fun i : Sid => dutyTok ER (recvCell c i) 0 0))

/-- What is minted for device `c`. -/
def G (c : Dev nD) : sProp 𝕄 :=
  iprop((bigSep Finset.univ fun k : CK => roundState ER (Rd m ρ) (kcell (c, k)) 0)
    ∗ ((bigSep Finset.univ fun k : CK => atPos ER (kcell (c, k)) 0 ∅ 0)
      ∗ (bigSep Finset.univ fun k : CK => reached ER (kcell (c, k)) 0)) ∗ toks c)

/-- What device `c` gets of it. -/
def G' (c : Dev nD) : sProp 𝕄 := iprop(∃ K, records m ρ K ∗ linear (F := F) c)

omit [FloatOps F] in
theorem over_cells (Φ : GSem nD τ sig → sProp 𝕄) :
    bigSep cells Φ = bigSep Finset.univ fun c : Dev nD => bigSep Finset.univ fun k : CK => Φ (kcell (c, k)) := by
  unfold cells; rw [bigSep_map, bigSep_univ_prod]; rfl

omit [FloatOps F] in
theorem over_rights :
    bigSep rights (fun x => (dutyTok ER x.1 x.2.1 x.2.2 : sProp 𝕄)) = bigSep Finset.univ fun c : Dev nD => toks c := by
  unfold rights; rw [bigSep_map, bigSep_univ_prod]
  exact bigSep_congr fun c _ => by unfold toks; rw [bigSep_univ_sum, bigSep_univ_sum]; rfl

theorem mint : BI.own (ER (initOf cells rights)) ⊢ (|==> bigSep Finset.univ (G m ρ) : sProp 𝕄) := by
  iintro HX
  imod (Rounds.fund ER (Rd m ρ) cells rights) $$ HX with ⟨Hst, Hr, Hat, Htok⟩
  imodintro
  ihave Hst' := (Entails.of_eq (over_cells fun g => roundState ER (Rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq (over_rights (F := F))) $$ Htok
  unfold G; simp only [bigSep_sep']
  isplitl [Hst']; · iexact Hst'
  isplitl [Hat' Hr']
  · isplitl [Hat'] <;> iassumption
  iexact Htok'

/-! ## Opening the invariants -/

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem own_eq (c : Dev nD) :
    (Pipeline.ownSems0 (Ix := Unit) (Name := ℕ) (U := UU) (Lvl := ℕ) (Val := Elt F) (τ := τ) osem c : sProp 𝕄)
      = iprop((bigSep Finset.univ fun i : Sid => semVal (sendCell c i) 0) ∗ bigSep Finset.univ fun i : Sid => semVal (recvCell c i) 0) := by
  unfold Pipeline.ownSems0; rw [bigSep_univ_sum]; rfl

omit [FloatOps F] in
/-- Over the semaphores of one device: its barrier, its send semaphores and its receive semaphores. -/
theorem over_CK (Φ : CK → sProp 𝕄) :
    bigSep Finset.univ Φ = iprop(Φ (.inl ()) ∗ (bigSep Finset.univ fun i : Sid => Φ (.inr (.inl i)))
      ∗ bigSep Finset.univ fun i : Sid => Φ (.inr (.inr i))) := by
  rw [bigSep_univ_sum, bigSep_univ_sum, Finset.univ_unique, bigSep_singleton]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [own_eq, unscoped_eq, over_CK]
  iintro ⟨⟨HS, HV⟩, HB⟩
  isplitl [HB]; · iexact HB
  isplitl [HS] <;> iassumption

theorem invs (c : Dev nD) :
    iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

theorem opened (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ ((bigSep Finset.univ fun k : CK => atPos ER (kcell (c, k)) 0 ∅ 0)
            ∗ (bigSep Finset.univ fun k : CK => reached ER (kcell (c, k)) 0)) ∗ toks c) := by
  unfold G
  iintro ⟨Hos, Hus, Hst, Hrest⟩
  ihave Hv := (sems_eq (F := F) c) $$ [Hos Hus]
  · isplitl [Hos] <;> iassumption
  imod (invs m ρ c) $$ [Hv Hst] with Hinv
  · isplitl [Hv] <;> iassumption
  imodintro
  isplitl [Hinv]; · iexact Hinv
  iexact Hrest

/-- The rights device `c` pays with. -/
def payToks (c : Dev nD) : sProp 𝕄 :=
  iprop((bigSep Finset.univ fun p : Pid => dutyTok ER (barCell (sh (mvP p) c)) 0 (opp p))
    ∗ (bigSep Finset.univ fun i : Sid => dutyTok ER (sendCell c i) 0 0)
    ∗ (bigSep Finset.univ fun i : Sid => dutyTok ER (recvCell (sh (mv i) c) i) 0 0))

/-- A family over devices, one number each moved along its own translation, is the family itself. -/
theorem moved {M : Type} [URA M] {I : Type} [Fintype I] [DecidableEq I] (g : I → Disp) (Φ : Dev nD → I → sProp M) :
    (bigSep Finset.univ fun c : Dev nD => bigSep Finset.univ fun i : I => Φ (sh (g i) c) i)
      = bigSep Finset.univ fun c : Dev nD => bigSep Finset.univ fun i : I => Φ c i := by
  rw [bigSep_univ_comm, bigSep_univ_comm (fun c i => Φ c i)]
  exact bigSep_congr fun i _ => (bigSep_univ_equiv (shEquiv (g i)) fun c => Φ c i).symm

omit [FloatOps F] in
theorem dealt : (bigSep Finset.univ fun c : Dev nD => (toks c : sProp 𝕄)) = bigSep Finset.univ fun c : Dev nD => payToks c := by
  unfold toks payToks
  rw [bigSep_sep', bigSep_sep', bigSep_sep', bigSep_sep',
    moved mvP fun c p => (dutyTok ER (barCell c) 0 (opp p) : sProp 𝕄),
    moved mv fun c i => (dutyTok ER (recvCell c i) 0 0 : sProp 𝕄)]
  congr 1
  exact bigSep_congr fun c _ => bigSep_univ_equiv oppEquiv fun p => (dutyTok ER (barCell c) 0 p : sProp 𝕄)

/-- What everybody may have, had by every member of a family. -/
theorem give_all {M : Type} [URA M] {I : Type} [DecidableEq I] (S : Finset I) (R : sProp M) [BI.Persistent R] (Φ Ψ : I → sProp M)
    (h : ∀ i, iprop(R ∗ Φ i) ⊢ Ψ i) : iprop(R ∗ bigSep S Φ) ⊢ bigSep S Ψ :=
  (sep_mono_left (BI.bigSep_of_persistent S R)).trans
    ((Entails.of_eq (bigSep_sep' S (fun _ => R) Φ).symm).trans (bigSep_mono fun i _ => h i))

omit [FloatOps F] in
theorem linear_intro (c : Dev nD) :
    iprop((bigSep Finset.univ fun k : CK => atPos ER (kcell (c, k)) 0 ∅ 0) ∗ payToks c) ⊢ (linear (F := F) c : sProp 𝕄) := by
  unfold linear payToks
  rw [over_CK]
  iintro ⟨⟨HB, HS, HV⟩, HtB, HtS, HtV⟩
  isplitl [HB]; · iexact HB
  isplitl [HtB]; · iexact HtB
  isplitl [HtS]; · iexact HtS
  isplitl [HtV]; · iexact HtV
  isplitl [HS] <;> iassumption

theorem shared :
    (bigSep Finset.univ fun c : Dev nD => iprop((bigSep Finset.univ fun k => iprop(∃ κ : ℕ, cellInv ER (Rd m ρ) κ (kcell (c, k))))
          ∗ ((bigSep Finset.univ fun k : CK => atPos ER (kcell (c, k)) 0 ∅ 0)
            ∗ (bigSep Finset.univ fun k : CK => reached ER (kcell (c, k)) 0)) ∗ toks c) : sProp 𝕄)
      ⊢ bigSep Finset.univ (G' m ρ) := by
  rw [bigSep_sep', bigSep_sep', bigSep_sep', dealt,
    ← bigSep_univ_prod (fun ck : Dev nD × CK => iprop(∃ κ : ℕ, cellInv ER (Rd m ρ) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  iapply (give_all Finset.univ (records m ρ K)
    (fun c : Dev nD => iprop((bigSep Finset.univ fun k : CK => atPos ER (kcell (c, k)) 0 ∅ 0) ∗ payToks (F := F) c)) (G' m ρ) fun c => by
      have h : iprop(records m ρ K ∗ (bigSep Finset.univ fun k : CK => atPos ER (kcell (c, k)) 0 ∅ 0) ∗ payToks (F := F) c) ⊢ G' m ρ c := by
        unfold G'
        iintro ⟨Hrec, H⟩
        iexists K
        isplitl [Hrec]; · iexact Hrec
        iapply (linear_intro (F := F) c); iexact H
      exact h)
  isplitr
  · unfold records; isplitl; · iexact HI
    iexact HR
  · rw [bigSep_sep']
    isplitl [Hat]; · iexact Hat
    iexact Htok

/-- The semaphores of all devices and what is minted for them, made into what the devices start from. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => opened m ρ c).trans (bigSep_fupd _ _)).trans (BI.fupd_mono (shared m ρ))

/-! ## The credit of the launch -/

/-- What all devices together owe a cell: seven signals a barrier, one chunk a receive semaphore. -/
def due : CK → ℕ
  | .inl _ => 7
  | .inr (.inl _) => 0
  | .inr (.inr _) => N

/-- One debt per device, each at the cell moved along the same translation: every cell is owed once. -/
theorem owed_once (c : Dev nD) (k k' : CK) (g : Disp) (n : ℕ) :
    ∑ d : Dev nD, (tallyAt (kcell (sh g d, k')) () n : CellTallies nD τ sig Unit) (kcell (c, k)) () = if k = k' then n else 0 := by
  refine (Equiv.sum_comp (shEquiv g) (fun d => (tallyAt (kcell (d, k')) () n : CellTallies nD τ sig Unit) (kcell (c, k)) ())).trans ?_
  by_cases hk : k = k'
  · subst hk
    rw [if_pos rfl, Finset.sum_eq_single c (fun d _ hd => ?_) (fun h => absurd (Finset.mem_univ c) h), tallyAt_apply, if_pos ⟨rfl, rfl⟩]
    rw [tallyAt_apply, if_neg fun h => hd (congrArg Prod.fst (kcell_inj h.1)).symm]
  · rw [if_neg hk]
    exact Finset.sum_eq_zero fun d _ => by rw [tallyAt_apply, if_neg fun h => hk (congrArg Prod.snd (kcell_inj h.1))]

theorem sum_at {I : Type} (S : Finset I) (f : I → CellTallies nD τ sig Unit) (g : GSem nD τ sig) :
    (∑ i ∈ S, f i) g () = ∑ i ∈ S, f i g () := by
  rw [Finset.sum_apply, Finsupp.finset_sum_apply]

theorem owed_total (c : Dev nD) (k : CK) : ∑ d : Dev nD, O₀ d (kcell (c, k)) () = due k := by
  have h : ∀ d : Dev nD, O₀ d (kcell (c, k)) ()
      = (∑ i : Sid, (tallyAt (recvCell (sh (mv i) d) i) () N : CellTallies nD τ sig Unit) (kcell (c, k)) ())
        + ∑ p : Pid, (tallyAt (barCell (sh (mvP p) d)) () 1 : CellTallies nD τ sig Unit) (kcell (c, k)) () := fun d => by
    unfold O₀ owedX owedB
    rw [Pi.add_apply, Finsupp.add_apply, sum_at, sum_at]
  rw [Finset.sum_congr rfl fun d _ => h d, Finset.sum_add_distrib, Finset.sum_comm,
    Finset.sum_comm (f := fun d p => (tallyAt (barCell (sh (mvP p) d)) () 1 : CellTallies nD τ sig Unit) (kcell (c, k)) ()),
    Finset.sum_congr rfl fun i _ => owed_once c k (.inr (.inr i)) (mv i) N,
    Finset.sum_congr rfl fun p _ => owed_once c k (.inl ()) (mvP p) 1]
  rcases k with u | j | j <;> simp [due]

theorem launch_at (c : Dev nD) (k : CK) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, owed_total]

omit [FloatOps F] in
theorem creds (c : Dev nD) : (Pipeline.launchCred O₀ c : sProp 𝕄) ⊢ credits (F := F) c := by
  have h : (bigSep Finset.univ fun k : CK => cred (tallyAt (kcell (c, k)) () (due k)) : sProp 𝕄) ⊢ credits (F := F) c := by
    unfold credits
    rw [over_CK]
    iintro ⟨HB, -, HV⟩
    isplitl [HB]; · iexact HB
    iexact HV
  refine BI.Entails.trans ?_ h
  unfold Pipeline.launchCred
  refine BI.Entails.trans (bigSep_subset (Finset.subset_univ (Finset.univ.map ⟨csem, fun _ _ => csem_inj⟩))) ?_
  rw [bigSep_map]
  exact bigSep_mono fun k _ => Entails.of_eq (congrArg cred (launch_at c k))

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, own_eq, unscoped_eq]
  unfold Φ₁
  iintro ⟨Hr, HzS, HzV, HzB⟩
  isplitl [HzB]; · iexact HzB
  isplitl [HzS HzV]
  · isplitl [HzS] <;> iassumption
  iexists (xg m ρ); iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (by rw [kindOf_stage]; rfl)
    · have h : (levAts L lv : sProp 𝕄) ⊢ MayWait (c : Thread nD τ) (.dma ((cfg0.spec w).sem s)) () 0 := by
        rw [MayWait_zero]; iintro -; iempintro
      exact h

/-! ## The run -/

/-- What the arrays of device `c` hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- For any float values, from any memory with every semaphore at zero: every weakly fair run of the 32 devices ends,
    with the arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _

theorem finalA_w (c : Dev nD) : finalA m ρ c (1 : Fin 3) = (s₀ m ρ).mem (win0_1.arr.view.loc (c : Thread nD τ)) :=
  (dats (F := F) m ρ 0 c).arrAt_in (1 : Fin 3) rfl _

/-- The result array's one block is all of it, and holds what the body left. -/
theorem finalA_o (c : Dev nD) :
    (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Cert.GatherProof

end
-- ==== Proof.Value.lean ====
/-
# What the result is

Over the extended reals: the gathered matrix is the whole left factor, each device's right factor is its block of the
columns, and so each device's result is its block of the columns of the reference's result.
-/
module

public import proofs.«01_k».proof.Defs
public import proofs.«01_k».proof.Proof.Launch
public import proofs.«01_k».proof.Proof.Gen.Kernel
public import proofs.«01_k».proof.Proof.Gen.ReferenceIdeal.Run
public import Idealize.ShloMosaic.PureOps.Ideal.Laws

@[expose] public section

noncomputable section

namespace Cert.GatherProof

open Cert.KernelIdeal Cert.KernelIdeal.Gen

open Idealize.ShloMosaic
open Idealize.ShloMosaic.TcCoe
open Idealize.SL.Sem

/-! ## The arrays of a device, whole -/

section Arrays

variable {F : FTy → Type} [FloatOps F] (m : (ℓ : Loc nD τ sig) → Buf (Elt F) ℓ) (ρ : Dev nD → PrngReg)

theorem xstg_eq (c : Dev nD) : xstg m ρ c = m ((c : Thread nD τ).loc main_arg0) := by
  unfold xstg s₀
  exact Memref.read_access_unit_zero (Elt F) main_arg0 (funext fun a => by fin_cases a <;> decide) (fun a => by fin_cases a <;> decide) _

theorem wstg_eq (c : Dev nD) : wstg m ρ c = m ((c : Thread nD τ).loc main_arg1) := by
  unfold wstg s₀
  exact Memref.read_access_unit_zero (Elt F) main_arg1 (funext fun a => by fin_cases a <;> decide) (fun a => by fin_cases a <;> decide) _

theorem result_eq (c : Dev nD) : finalA m ρ c (2 : Fin 3) = outAt m ρ c := by
  rw [← finalA_o]
  exact (Memref.read_access_unit_zero (Elt F) main_v1 (funext fun a => by fin_cases a <;> decide) (fun a => by fin_cases a <;> decide) _).symm

/-- Row `r` of the gathered matrix lies, within the rows of its device, where the rows of the devices laid one after
    another have it. -/
theorem rowIdx_idx (h : Layout.Tiles S32x1024 S1024x1024 0 32) (x : S1024x1024.Idx) : h.idx (rowDev (x 0)) (rowIdx x) = x := by
  funext a
  refine Fin.ext ?_
  fin_cases a
  · exact Nat.div_add_mod' (x 0).val 32
  · rfl

/-- The gathered matrix is the whole one the devices' rows are the blocks of. -/
theorem xg_eq (X : S1024x1024.Idx → Elt F .bf16)
    (hX : ∀ c : Dev nD, m ((c : Thread nD τ).loc main_arg0) = Layout.block S32x1024 S1024x1024 0 32 c X) : xg m ρ = X := by
  funext x
  unfold xg
  rw [xstg_eq, hX, Layout.block_apply, rowIdx_idx]

end Arrays

/-! ## The product and what follows it -/

open Cert.ReferenceIdeal (dot_S1024x1024_S1024x1024_S1024x1024_1_0_0_1_n_n)

/-- The whole product. -/
def wholeProduct (X W : FVec Ideal S1024x1024 .bf16) : FVec Ideal S1024x1024 .f32 :=
  Host.dotGeneral (F := Ideal) dot_S1024x1024_S1024x1024_S1024x1024_1_0_0_1_n_n none X W

/-- The number a 32-bit float word is. -/
abbrev lit (b : BitVec 32) : EReal := Scalar.ofBits (F := Ideal) .f32 b

/-- The tanh form of the gelu of one number. -/
def gelu (y : EReal) : EReal :=
  lit 0x3F000000#32 * y * (lit 0x3F800000#32 + Ideal.tanh (lit 0x3F4C422A#32 * (y + lit 0x3D372713#32 * (y * y * y))))

/-- What the reference computes of its arguments. -/
def whole (X W : FVec Ideal S1024x1024 .bf16) : FVec Ideal S1024x1024 .f32 := fun i => gelu (wholeProduct X W i)

/-- The block of columns of device `c` of the whole product is the product with the block of columns. -/
theorem product_block (c : Dev nD) (X W : FVec Ideal S1024x1024 .bf16) (h : Layout.Tiles S1024x32 S1024x1024 1 32) (j : S1024x32.Idx) :
    matmul (F := Ideal) dot_S1024x1024_S1024x32_S1024x32_1_0_0_1_n_n none X (Layout.block S1024x32 S1024x1024 1 32 c W h)
        (constant S1024x32 .f32 0x00000000#32) j
      = wholeProduct X W (h.idx c j) := by
  unfold wholeProduct
  simp only [matmul, Host.dotGeneral]
  rw [Ideal.matmul_constant_zero_apply, Ideal.dotGeneral_apply]
  refine Finset.sum_congr rfl fun k _ => congrArg₂ (· * ·) ?_ ?_
  · refine congrArg X (funext fun a => Fin.ext ?_)
    fin_cases a <;> rfl
  · refine congrArg W (funext fun a => Fin.ext ?_)
    fin_cases a <;> rfl

/-- What one device computes of the whole left factor and its columns of the right one is its columns of the whole
    result. -/
theorem columns (c : Dev nD) (X W : FVec Ideal S1024x1024 .bf16) (h : Layout.Tiles S1024x32 S1024x1024 1 32) :
    k0_pay2 (F := Ideal) X (Layout.block S1024x32 S1024x1024 1 32 c W h) = Layout.block S1024x32 S1024x1024 1 32 c (whole X W) h := by
  funext j
  rw [Layout.block_apply]
  unfold whole
  rw [← product_block c X W h j]
  unfold k0_pay2 gelu
  rw [cast_same]
  generalize matmul (F := Ideal) dot_S1024x1024_S1024x32_S1024x32_1_0_0_1_n_n none X (Layout.block S1024x32 S1024x1024 1 32 c W h)
    (constant S1024x32 .f32 0x00000000#32) = Y
  have hy : lit 0x3D372713#32 * Y j * Y j * Y j = lit 0x3D372713#32 * (Y j * Y j * Y j) := by
    rw [mul_assoc, mul_assoc, mul_assoc]
  show lit 0x3F000000#32 * Y j * (lit 0x3F800000#32 + Ideal.tanh (lit 0x3F4C422A#32 * (Y j + lit 0x3D372713#32 * Y j * Y j * Y j))) = _
  rw [hy]

/-! ## The claims -/

/-- The reference runs, with its result the gelu of the product and its arguments unchanged. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread _ Cert.ReferenceIdeal.τ).loc Cert.ReferenceIdeal.main_v15)
            = whole (m ((c.tc : Thread _ Cert.ReferenceIdeal.τ).loc Cert.ReferenceIdeal.main_arg0))
                (m ((c.tc : Thread _ Cert.ReferenceIdeal.τ).loc Cert.ReferenceIdeal.main_arg1))
          ∧ r.2.mem ((c.tc : Thread _ Cert.ReferenceIdeal.τ).loc Cert.ReferenceIdeal.main_arg0)
            = m ((c.tc : Thread _ Cert.ReferenceIdeal.τ).loc Cert.ReferenceIdeal.main_arg0)
          ∧ r.2.mem ((c.tc : Thread _ Cert.ReferenceIdeal.τ).loc Cert.ReferenceIdeal.main_arg1)
            = m ((c.tc : Thread _ Cert.ReferenceIdeal.τ).loc Cert.ReferenceIdeal.main_arg1) :=
  (θ_run Cert.ReferenceIdeal.defs _ _).mono (fun _ h c => ⟨(h c).1.trans rfl, (h c).2⟩) (Cert.ReferenceIdeal.Value.run (F := Ideal) m ρ)

/-- For any float values: the kernel runs, leaves its arguments as they were and every semaphore at zero. -/
theorem run_frame {F : FTy → Type} [FloatOps F] (m : (ℓ : Loc nD τ sig) → Buf (Elt F) ℓ) (ρ : Dev nD → PrngReg) :
    θ_run Cert.KernelIdeal.defs (onTc (τ := τ) (Cert.KernelIdeal.main (F := F))) (s₀ m ρ) fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

theorem frame_kernelIdeal : Cert.quiescent_KernelIdeal := fun m ρ _ => run_frame (F := Ideal) m ρ

/-! The kernel as printed for reading at the floats is the same program: its body, and so the table of bodies. -/

set_option maxRecDepth 200000 in
theorem body_same : @Cert.Kernel.cc0_body Bits _ _ = @Cert.KernelIdeal.cc0_body Bits _ _ := rfl

theorem bodies_same : Cert.Kernel.defs₀ (F := Bits) = Cert.KernelIdeal.defs₀ := by
  unfold Cert.Kernel.defs₀ Cert.KernelIdeal.defs₀
  refine congrArg _ (funext fun ℓ => funext fun a => ?_)
  obtain rfl : ℓ = (0 : Fin 1) := Subsingleton.elim (α := Fin 1) _ _
  obtain ⟨t, s⟩ := a
  dsimp only
  rw [body_same]

theorem defs_same : Cert.Kernel.defs (F := Bits) = Cert.KernelIdeal.defs := by
  unfold Cert.Kernel.defs Cert.KernelIdeal.defs
  exact congrArg (Pipeline.defs _) bodies_same

theorem frame_kernel : Cert.quiescent_Kernel := by
  intro m ρ _
  rw [defs_same]
  exact run_frame (F := Bits) m ρ

theorem frame_referenceIdeal : Cert.quiescent_ReferenceIdeal := fun m ρ _ =>
  (θ_run Cert.ReferenceIdeal.defs _ _).mono (fun r h => ⟨fun c => (h c).2, sem_eq_zero_of_no_sems (by decide) r.2⟩) (run_reference m ρ)

/-- Every device's result is its block of the columns of the reference's. -/
theorem algebraic : Cert.algebraic_KernelIdeal_ReferenceIdeal := by
  intro m ρ m' ρ' _ hagree
  refine ⟨_, ?_, (θ_run Cert.ReferenceIdeal.defs _ _).mono (fun _ h => h 0) (run_reference m' ρ')⟩
  refine (θ_run Cert.KernelIdeal.defs _ _).mono (fun _ h c => ⟨(h.1 c (2 : Fin 3)).trans ?_,
    (h.1 c (0 : Fin 3)).trans (finalA_x m ρ c), (h.1 c (1 : Fin 3)).trans (finalA_w m ρ c)⟩) (run_main (F := Ideal) m ρ)
  rw [result_eq, outAt, xg_eq m ρ _ fun c => (hagree c).1, wstg_eq, (hagree c).2]
  exact columns c _ _ _

end Cert.GatherProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.GatherProof.frame_kernel, Cert.GatherProof.frame_kernelIdeal, Cert.GatherProof.frame_referenceIdeal, trivial,
  Cert.GatherProof.algebraic⟩

end Cert.Proof

end
